-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qk2 [hPre_finite_qk2 : Cert.Pre_finite_qk2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qk2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qk2 [hPre_finite_qk2 : Cert.Pre_finite_qk2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qk2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_qk2 [hKernel2Ideal : Cert.Kernel2Ideal.Facts] [hPre_finite_qk2 : Cert.Pre_finite_qk2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qk2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_qk2 [hReference2Ideal : Cert.Reference2Ideal.Facts] [hPre_finite_qk2 : Cert.Pre_finite_qk2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qk2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "scale_log2e" .f32 0x3E16C740#32 ((((Real.sqrt 96) * (Real.log 2))⁻¹ : ℝ) : EReal)

def algebraic_Kernel2Ideal_Reference2Ideal_pre_finite_qk2 [hKernel2Ideal : Cert.Kernel2Ideal.Facts] [hReference2Ideal : Cert.Reference2Ideal.Facts] [hPre_finite_qk2 : Cert.Pre_finite_qk2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qk2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v48) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qk : Cert.Pre_finite_qk.Facts) (hPre_finite_qk2 : Cert.Pre_finite_qk2.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Kernel2Ideal_pre_finite_qk2 (hKernel2Ideal := hKernel2Ideal) (hPre_finite_qk2 := hPre_finite_qk2)
    ∧ quiescent_Reference2Ideal (hReference2Ideal := hReference2Ideal)
    ∧ quiescent_Reference2Ideal_pre_finite_qk2 (hReference2Ideal := hReference2Ideal) (hPre_finite_qk2 := hPre_finite_qk2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal_pre_finite_qk2 (hKernel2Ideal := hKernel2Ideal) (hReference2Ideal := hReference2Ideal) (hPre_finite_qk2 := hPre_finite_qk2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_qk.lean ====
abbrev S2x8x16384x64 : Shape := ⟨4, ![2, 8, 16384, 64]⟩
abbrev S2x2x16384x64 : Shape := ⟨4, ![2, 2, 16384, 64]⟩
abbrev S2x10x16384x64 : Shape := ⟨4, ![2, 10, 16384, 64]⟩
abbrev S_ : Shape := ⟨0, ![]⟩

class Facts : Prop where
  concatenates_S2x8x16384x64_S2x2x16384x64_S2x10x16384x64_d1 : Shape.Concatenates [S2x8x16384x64, S2x2x16384x64] S2x10x16384x64 1
  bcast_S_S2x10x16384x64 : S_.BroadcastsInDim S2x10x16384x64 (![] : Fin 0 → Fin S2x10x16384x64.rank)

variable [Facts]

def fn {F : FTy → Type} [FloatOps F] (main_arg0 : FVec F S2x8x16384x64 .f32) (main_arg1 : FVec F S2x2x16384x64 .f32) (main_arg2 : FVec F S2x2x16384x64 .f32) : IVec S2x10x16384x64 1 :=
  let main_v0 : FVec F S2x10x16384x64 .f32 := (fun a b => concatenate S2x10x16384x64 1 [⟨S2x8x16384x64, a⟩, ⟨S2x2x16384x64, b⟩] concatenates_S2x8x16384x64_S2x2x16384x64_S2x10x16384x64_d1) main_arg0 main_arg1
  let main_v1 : FVec F S2x10x16384x64 .f32 := Host.absf main_v0
  let main_cst : FVec F S_ .f32 := constant S_ .f32 0x7F800000#32
  let main_v2 : FVec F S2x10x16384x64 .f32 := broadcastInDim S2x10x16384x64 ![] bcast_S_S2x10x16384x64 main_cst
  let main_v3 : IVec S2x10x16384x64 1 := cmpf .olt main_v1 main_v2
  main_v3
-- ==== Pre_finite_qk2.lean ====
abbrev S2x8x16384x96 : Shape := ⟨4, ![2, 8, 16384, 96]⟩
abbrev S2x8x16384x64 : Shape := ⟨4, ![2, 8, 16384, 64]⟩
abbrev S2x16x16384x96 : Shape := ⟨4, ![2, 16, 16384, 96]⟩
abbrev S_ : Shape := ⟨0, ![]⟩

class Facts : Prop where
  concatenates_S2x8x16384x96_S2x8x16384x96_S2x16x16384x96_d1 : Shape.Concatenates [S2x8x16384x96, S2x8x16384x96] S2x16x16384x96 1
  bcast_S_S2x16x16384x96 : S_.BroadcastsInDim S2x16x16384x96 (![] : Fin 0 → Fin S2x16x16384x96.rank)

variable [Facts]

def fn {F : FTy → Type} [FloatOps F] (main_arg0 : FVec F S2x8x16384x96 .f32) (main_arg1 : FVec F S2x8x16384x96 .f32) (main_arg2 : FVec F S2x8x16384x64 .f32) : IVec S2x16x16384x96 1 :=
  let main_v0 : FVec F S2x16x16384x96 .f32 := (fun a b => concatenate S2x16x16384x96 1 [⟨S2x8x16384x96, a⟩, ⟨S2x8x16384x96, b⟩] concatenates_S2x8x16384x96_S2x8x16384x96_S2x16x16384x96_d1) main_arg0 main_arg1
  let main_v1 : FVec F S2x16x16384x96 .f32 := Host.absf main_v0
  let main_cst : FVec F S_ .f32 := constant S_ .f32 0x7F800000#32
  let main_v2 : FVec F S2x16x16384x96 .f32 := broadcastInDim S2x16x16384x96 ![] bcast_S_S2x16x16384x96 main_cst
  let main_v3 : IVec S2x16x16384x96 1 := cmpf .olt main_v1 main_v2
  main_v3
-- ==== Kernel.lean ====
abbrev S2x8x16384x64 : Shape := ⟨4, ![2, 8, 16384, 64]⟩
abbrev S2x2x16384x64 : Shape := ⟨4, ![2, 2, 16384, 64]⟩
abbrev S2x8x64x16384 : Shape := ⟨4, ![2, 8, 64, 16384]⟩
abbrev S_ : Shape := ⟨0, ![]⟩
abbrev S2x4x64x16384 : Shape := ⟨4, ![2, 4, 64, 16384]⟩
abbrev S2x4x128x16384 : Shape := ⟨4, ![2, 4, 128, 16384]⟩
abbrev S2x8x128x16384 : Shape := ⟨4, ![2, 8, 128, 16384]⟩
abbrev S2x16384x2x64 : Shape := ⟨4, ![2, 16384, 2, 64]⟩
abbrev S2x1x32x512x128 : Shape := ⟨5, ![2, 1, 32, 512, 128]⟩
abbrev S2x2x32x512x64 : Shape := ⟨5, ![2, 2, 32, 512, 64]⟩
abbrev S2x2x32x64x512 : Shape := ⟨5, ![2, 2, 32, 64, 512]⟩
abbrev S1x1x128x2048 : Shape := ⟨4, ![1, 1, 128, 2048]⟩
abbrev S1x1x32x512x128 : Shape := ⟨5, ![1, 1, 32, 512, 128]⟩
abbrev S1x1x32x64x512 : Shape := ⟨5, ![1, 1, 32, 64, 512]⟩
abbrev S1x1x64x2048 : Shape := ⟨4, ![1, 1, 64, 2048]⟩
abbrev S512x2048 : Shape := ⟨2, ![512, 2048]⟩
abbrev S8x2048 : Shape := ⟨2, ![8, 2048]⟩
abbrev S64x2048 : Shape := ⟨2, ![64, 2048]⟩
abbrev S1x1x1x512x128 : Shape := ⟨5, ![1, 1, 1, 512, 128]⟩
abbrev S512x128 : Shape := ⟨2, ![512, 128]⟩
abbrev S1x1x128x256 : Shape := ⟨4, ![1, 1, 128, 256]⟩
abbrev S128x256 : Shape := ⟨2, ![128, 256]⟩
abbrev S512x256 : Shape := ⟨2, ![512, 256]⟩
abbrev S8x256 : Shape := ⟨2, ![8, 256]⟩
abbrev S64x8x256 : Shape := ⟨3, ![64, 8, 256]⟩
abbrev S64x256 : Shape := ⟨2, ![64, 256]⟩
abbrev S1x1x1x64x512 : Shape := ⟨5, ![1, 1, 1, 64, 512]⟩
abbrev S64x512 : Shape := ⟨2, ![64, 512]⟩
abbrev S2048 : Shape := ⟨1, ![2048]⟩
abbrev S1x2048 : Shape := ⟨2, ![1, 2048]⟩

abbrev nBuf : Space → Nat
  | .hbm => 19
  | .vmem => 12
  | .smem => 0
  | _ => 0

abbrev bufTy : (tb : Table) → Fin (tcTables nBuf tb) → BufTy
  | .hbm, ⟨0, _⟩ => ⟨S2x8x16384x64, .f32⟩
  | .hbm, ⟨1, _⟩ => ⟨S2x2x16384x64, .f32⟩
  | .hbm, ⟨2, _⟩ => ⟨S2x2x16384x64, .f32⟩
  | .hbm, ⟨3, _⟩ => ⟨S2x8x64x16384, .f32⟩
  | .hbm, ⟨4, _⟩ => ⟨S_, .f32⟩
  | .hbm, ⟨5, _⟩ => ⟨S2x4x64x16384, .f32⟩
  | .hbm, ⟨6, _⟩ => ⟨S2x4x64x16384, .f32⟩
  | .hbm, ⟨7, _⟩ => ⟨S2x4x128x16384, .f32⟩
  | .hbm, ⟨8, _⟩ => ⟨S2x4x64x16384, .f32⟩
  | .hbm, ⟨9, _⟩ => ⟨S2x4x128x16384, .f32⟩
  | .hbm, ⟨10, _⟩ => ⟨S2x8x128x16384, .f32⟩
  | .hbm, ⟨11, _⟩ => ⟨S2x16384x2x64, .f32⟩
  | .hbm, ⟨12, _⟩ => ⟨S2x1x32x512x128, .f32⟩
  | .hbm, ⟨13, _⟩ => ⟨S2x2x32x512x64, .f32⟩
  | .hbm, ⟨14, _⟩ => ⟨S2x2x32x64x512, .f32⟩
  | .hbm, ⟨15, _⟩ => ⟨S2x8x128x16384, .bf16⟩
  | .hbm, ⟨16, _⟩ => ⟨S2x1x32x512x128, .bf16⟩
  | .hbm, ⟨17, _⟩ => ⟨S2x2x32x64x512, .bf16⟩
  | .hbm, ⟨18, _⟩ => ⟨S2x8x64x16384, .bf16⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x32x512x128, .bf16⟩
  | .local _ .vmem, ⟨3, _⟩ => ⟨S1x1x32x512x128, .bf16⟩
  | .local _ .vmem, ⟨4, _⟩ => ⟨S1x1x32x64x512, .bf16⟩
  | .local _ .vmem, ⟨5, _⟩ => ⟨S1x1x32x64x512, .bf16⟩
  | .local _ .vmem, ⟨6, _⟩ => ⟨S1x1x64x2048, .bf16⟩
  | .local _ .vmem, ⟨7, _⟩ => ⟨S1x1x64x2048, .bf16⟩
  | .local _ .vmem, ⟨8, _⟩ => ⟨S512x2048, .bf16⟩
  | .local _ .vmem, ⟨9, _⟩ => ⟨S512x2048, .bf16⟩
  | .local _ .vmem, ⟨10, _⟩ => ⟨S8x2048, .f32⟩
  | .local _ .vmem, ⟨11, _⟩ => ⟨S64x2048, .f32⟩
  | _, _ => ⟨S2x8x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

@[reducible] def k0_t1_loop : Scf.Loop 32 :=
  let c0_i32 : BitVec 32 := 0#32
  let c3_i32 : BitVec 32 := 3#32
  let v160 : BitVec 32 := Scalar.addi c0_i32 c3_i32
  let c1_i32 : BitVec 32 := 1#32
  ⟨c0_i32, v160, c1_i32⟩
def k0_off1 (k0_t1 : Fin k0_t1_loop.trips) (c0_i32_1919 : BitVec 32) : Fin 5 → Nat :=
  let c0_1921 : Index := 0#32
  let c0_1922 : Index := 0#32
  let c0_i32 : BitVec 32 := 0#32
  let c1_i32 : BitVec 32 := 1#32
  let arg11 : BitVec 32 := Scf.iv c0_i32 c1_i32 k0_t1
  let c8_i32 : BitVec 32 := 8#32
  let v1811 : BitVec 32 := Scalar.muli arg11 c8_i32
  let v1812 : BitVec 32 := Scalar.addi v1811 c0_i32_1919
  let c1_i32_1920 : BitVec 32 := 1#32
  let v1813 : BitVec 32 := Scalar.addi v1812 c1_i32_1920
  let v1814 : Index := Scalar.indexCast v1813
  let c0_1923 : Index := 0#32
  let c0_1924 : Index := 0#32
  ![0, 0, v1814.toNat, 0, 0]
def k0_off2 (k0_t1 : Fin k0_t1_loop.trips) (c0_i32_1919 : BitVec 32) : Fin 5 → Nat :=
  let c0_1940 : Index := 0#32
  let c0_1941 : Index := 0#32
  let c0_i32 : BitVec 32 := 0#32
  let c1_i32 : BitVec 32 := 1#32
  let arg11 : BitVec 32 := Scf.iv c0_i32 c1_i32 k0_t1
  let c8_i32 : BitVec 32 := 8#32
  let v1811 : BitVec 32 := Scalar.muli arg11 c8_i32
  let v1812 : BitVec 32 := Scalar.addi v1811 c0_i32_1919
  let v1835 : Index := Scalar.indexCast v1812
  let c0_1942 : Index := 0#32
  let c0_1943 : Index := 0#32
  ![0, 0, v1835.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![arg0.toNat, v16.toNat, c0_i32_4.toNat, c0_i32_5.toNat, c0_i32_6.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![arg0.toNat, v16.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_log2e" => some (((8 * (Real.log 2))⁻¹ : ℝ) : EReal)
  | _ => none
-- ==== ReferenceIdeal.lean ====
abbrev S2x8x16384x64 : Shape := ⟨4, ![2, 8, 16384, 64]⟩
abbrev S2x2x16384x64 : Shape := ⟨4, ![2, 2, 16384, 64]⟩
abbrev S2x2x4x16384x64 : Shape := ⟨5, ![2, 2, 4, 16384, 64]⟩
abbrev S2x2x4x16384x16384 : Shape := ⟨5, ![2, 2, 4, 16384, 16384]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x8x64x16384 : Shape := ⟨4, ![2, 8, 64, 16384]⟩

abbrev nBuf : Space → Nat
  | .hbm => 26
  | .vmem => 0
  | .smem => 0
  | _ => 0

abbrev bufTy : (tb : Table) → Fin (tcTables nBuf tb) → BufTy
  | .hbm, ⟨0, _⟩ => ⟨S2x8x16384x64, .f32⟩
  | .hbm, ⟨1, _⟩ => ⟨S2x2x16384x64, .f32⟩
  | .hbm, ⟨2, _⟩ => ⟨S2x2x16384x64, .f32⟩
  | .hbm, ⟨3, _⟩ => ⟨S2x2x4x16384x64, .f32⟩
  | .hbm, ⟨4, _⟩ => ⟨S2x2x4x16384x16384, .f32⟩
  | .hbm, ⟨5, _⟩ => ⟨S_, .f32⟩
  | .hbm, ⟨6, _⟩ => ⟨S2x2x4x16384x16384, .f32⟩
  | .hbm, ⟨7, _⟩ => ⟨S2x2x4x16384x16384, .f32⟩
  | .hbm, ⟨8, _⟩ => ⟨S_, .f32⟩
  | .hbm, ⟨9, _⟩ => ⟨S2x2x4x16384, .f32⟩
  | .hbm, ⟨10, _⟩ => ⟨S_, .f32⟩
  | .hbm, ⟨11, _⟩ => ⟨S2x2x4x16384, .f32⟩
  | .hbm, ⟨12, _⟩ => ⟨S2x2x4x16384, .f32⟩
  | .hbm, ⟨13, _⟩ => ⟨S2x2x4x16384x1, .f32⟩
  | .hbm, ⟨14, _⟩ => ⟨S2x2x4x16384x16384, .f32⟩
  | .hbm, ⟨15, _⟩ => ⟨S2x2x4x16384x16384, .f32⟩
  | .hbm, ⟨16, _⟩ => ⟨S2x2x4x16384x16384, .f32⟩
  | .hbm, ⟨17, _⟩ => ⟨S_, .f32⟩
  | .hbm, ⟨18, _⟩ => ⟨S2x2x4x16384, .f32⟩
  | .hbm, ⟨19, _⟩ => ⟨S2x2x4x16384x1, .f32⟩
  | .hbm, ⟨20, _⟩ => ⟨S2x2x4x16384x16384, .f32⟩
  | .hbm, ⟨21, _⟩ => ⟨S2x2x4x16384x16384, .f32⟩
  | .hbm, ⟨22, _⟩ => ⟨S2x2x4x16384x64, .f32⟩
  | .hbm, ⟨23, _⟩ => ⟨S2x8x16384x64, .f32⟩
  | .hbm, ⟨24, _⟩ => ⟨S2x8x64x16384, .f32⟩
  | .hbm, ⟨25, _⟩ => ⟨S2x8x64x16384, .bf16⟩
  | _, _ => ⟨S2x8x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel2.lean ====
abbrev S2x8x16384x96 : Shape := ⟨4, ![2, 8, 16384, 96]⟩
abbrev S2x8x16384x64 : Shape := ⟨4, ![2, 8, 16384, 64]⟩
abbrev S2x8x96x16384 : Shape := ⟨4, ![2, 8, 96, 16384]⟩
abbrev S_ : Shape := ⟨0, ![]⟩
abbrev S2x8x32x16384 : Shape := ⟨4, ![2, 8, 32, 16384]⟩
abbrev S2x8x128x16384 : Shape := ⟨4, ![2, 8, 128, 16384]⟩
abbrev S2x8x16384x32 : Shape := ⟨4, ![2, 8, 16384, 32]⟩
abbrev S2x8x16384x128 : Shape := ⟨4, ![2, 8, 16384, 128]⟩
abbrev S2x8x32x512x128 : Shape := ⟨5, ![2, 8, 32, 512, 128]⟩
abbrev S2x8x32x512x64 : Shape := ⟨5, ![2, 8, 32, 512, 64]⟩
abbrev S2x8x32x64x512 : Shape := ⟨5, ![2, 8, 32, 64, 512]⟩
abbrev S2x8x64x16384 : Shape := ⟨4, ![2, 8, 64, 16384]⟩
abbrev S1x1x128x2048 : Shape := ⟨4, ![1, 1, 128, 2048]⟩
abbrev S1x1x32x512x128 : Shape := ⟨5, ![1, 1, 32, 512, 128]⟩
abbrev S1x1x32x64x512 : Shape := ⟨5, ![1, 1, 32, 64, 512]⟩
abbrev S1x1x64x2048 : Shape := ⟨4, ![1, 1, 64, 2048]⟩
abbrev S512x2048 : Shape := ⟨2, ![512, 2048]⟩
abbrev S8x2048 : Shape := ⟨2, ![8, 2048]⟩
abbrev S64x2048 : Shape := ⟨2, ![64, 2048]⟩
abbrev S1x1x1x512x128 : Shape := ⟨5, ![1, 1, 1, 512, 128]⟩
abbrev S512x128 : Shape := ⟨2, ![512, 128]⟩
abbrev S1x1x128x256 : Shape := ⟨4, ![1, 1, 128, 256]⟩
abbrev S128x256 : Shape := ⟨2, ![128, 256]⟩
abbrev S512x256 : Shape := ⟨2, ![512, 256]⟩
abbrev S8x256 : Shape := ⟨2, ![8, 256]⟩
abbrev S64x8x256 : Shape := ⟨3, ![64, 8, 256]⟩
abbrev S64x256 : Shape := ⟨2, ![64, 256]⟩
abbrev S1x1x1x64x512 : Shape := ⟨5, ![1, 1, 1, 64, 512]⟩
abbrev S64x512 : Shape := ⟨2, ![64, 512]⟩
abbrev S2048 : Shape := ⟨1, ![2048]⟩
abbrev S1x2048 : Shape := ⟨2, ![1, 2048]⟩

abbrev nBuf : Space → Nat
  | .hbm => 17
  | .vmem => 12
  | .smem => 0
  | _ => 0

abbrev bufTy : (tb : Table) → Fin (tcTables nBuf tb) → BufTy
  | .hbm, ⟨0, _⟩ => ⟨S2x8x16384x96, .f32⟩
  | .hbm, ⟨1, _⟩ => ⟨S2x8x16384x96, .f32⟩
  | .hbm, ⟨2, _⟩ => ⟨S2x8x16384x64, .f32⟩
  | .hbm, ⟨3, _⟩ => ⟨S2x8x96x16384, .f32⟩
  | .hbm, ⟨4, _⟩ => ⟨S_, .f32⟩
  | .hbm, ⟨5, _⟩ => ⟨S2x8x32x16384, .f32⟩
  | .hbm, ⟨6, _⟩ => ⟨S2x8x128x16384, .f32⟩
  | .hbm, ⟨7, _⟩ => ⟨S_, .f32⟩
  | .hbm, ⟨8, _⟩ => ⟨S2x8x16384x32, .f32⟩
  | .hbm, ⟨9, _⟩ => ⟨S2x8x16384x128, .f32⟩
  | .hbm, ⟨10, _⟩ => ⟨S2x8x32x512x128, .f32⟩
  | .hbm, ⟨11, _⟩ => ⟨S2x8x32x512x64, .f32⟩
  | .hbm, ⟨12, _⟩ => ⟨S2x8x32x64x512, .f32⟩
  | .hbm, ⟨13, _⟩ => ⟨S2x8x128x16384, .bf16⟩
  | .hbm, ⟨14, _⟩ => ⟨S2x8x32x512x128, .bf16⟩
  | .hbm, ⟨15, _⟩ => ⟨S2x8x32x64x512, .bf16⟩
  | .hbm, ⟨16, _⟩ => ⟨S2x8x64x16384, .bf16⟩
  | .local _ .vmem, ⟨0, _⟩ => ⟨S1x1x128x2048, .bf16⟩
  | .local _ .vmem, ⟨1, _⟩ => ⟨S1x1x128x2048, .bf16⟩
  | .local _ .vmem, ⟨2, _⟩ => ⟨S1x1x32x512x128, .bf16⟩
  | .local _ .vmem, ⟨3, _⟩ => ⟨S1x1x32x512x128, .bf16⟩
  | .local _ .vmem, ⟨4, _⟩ => ⟨S1x1x32x64x512, .bf16⟩
  | .local _ .vmem, ⟨5, _⟩ => ⟨S1x1x32x64x512, .bf16⟩
  | .local _ .vmem, ⟨6, _⟩ => ⟨S1x1x64x2048, .bf16⟩
  | .local _ .vmem, ⟨7, _⟩ => ⟨S1x1x64x2048, .bf16⟩
  | .local _ .vmem, ⟨8, _⟩ => ⟨S512x2048, .bf16⟩
  | .local _ .vmem, ⟨9, _⟩ => ⟨S512x2048, .bf16⟩
  | .local _ .vmem, ⟨10, _⟩ => ⟨S8x2048, .f32⟩
  | .local _ .vmem, ⟨11, _⟩ => ⟨S64x2048, .f32⟩
  | _, _ => ⟨S2x8x16384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

@[reducible] def k0_t1_loop : Scf.Loop 32 :=
  let c0_i32 : BitVec 32 := 0#32
  let c3_i32 : BitVec 32 := 3#32
  let v160 : BitVec 32 := Scalar.addi c0_i32 c3_i32
  let c1_i32 : BitVec 32 := 1#32
  ⟨c0_i32, v160, c1_i32⟩
def k0_off1 (k0_t1 : Fin k0_t1_loop.trips) (c0_i32_1919 : BitVec 32) : Fin 5 → Nat :=
  let c0_1921 : Index := 0#32
  let c0_1922 : Index := 0#32
  let c0_i32 : BitVec 32 := 0#32
  let c1_i32 : BitVec 32 := 1#32
  let arg11 : BitVec 32 := Scf.iv c0_i32 c1_i32 k0_t1
  let c8_i32 : BitVec 32 := 8#32
  let v1811 : BitVec 32 := Scalar.muli arg11 c8_i32
  let v1812 : BitVec 32 := Scalar.addi v1811 c0_i32_1919
  let c1_i32_1920 : BitVec 32 := 1#32
  let v1813 : BitVec 32 := Scalar.addi v1812 c1_i32_1920
  let v1814 : Index := Scalar.indexCast v1813
  let c0_1923 : Index := 0#32
  let c0_1924 : Index := 0#32
  ![0, 0, v1814.toNat, 0, 0]
def k0_off2 (k0_t1 : Fin k0_t1_loop.trips) (c0_i32_1919 : BitVec 32) : Fin 5 → Nat :=
  let c0_1940 : Index := 0#32
  let c0_1941 : Index := 0#32
  let c0_i32 : BitVec 32 := 0#32
  let c1_i32 : BitVec 32 := 1#32
  let arg11 : BitVec 32 := Scf.iv c0_i32 c1_i32 k0_t1
  let c8_i32 : BitVec 32 := 8#32
  let v1811 : BitVec 32 := Scalar.muli arg11 c8_i32
  let v1812 : BitVec 32 := Scalar.addi v1811 c0_i32_1919
  let v1835 : Index := Scalar.indexCast v1812
  let c0_1942 : Index := 0#32
  let c0_1943 : Index := 0#32
  ![0, 0, v1835.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![arg0.toNat, v16.toNat, c0_i32_5.toNat, c0_i32_6.toNat, c0_i32_7.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![arg0.toNat, v16.toNat, c0_i32_5.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel2Ideal.lean ====
variable {F : FTy → Type} [FloatOps F] [Named F]
def κ : String → Option EReal := fun
  | "scale_log2e" => some ((((Real.sqrt 96) * (Real.log 2))⁻¹ : ℝ) : EReal)
  | _ => none
-- ==== Reference2Ideal.lean ====
abbrev S2x8x16384x96 : Shape := ⟨4, ![2, 8, 16384, 96]⟩
abbrev S2x8x16384x64 : Shape := ⟨4, ![2, 8, 16384, 64]⟩
abbrev S2x8x16384x16384 : Shape := ⟨4, ![2, 8, 16384, 16384]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩

abbrev nBuf : Space → Nat
  | .hbm => 25
  | .vmem => 0
  | .smem => 0
  | _ => 0

abbrev bufTy : (tb : Table) → Fin (tcTables nBuf tb) → BufTy
  | .hbm, ⟨0, _⟩ => ⟨S2x8x16384x96, .f32⟩
  | .hbm, ⟨1, _⟩ => ⟨S2x8x16384x96, .f32⟩
  | .hbm, ⟨2, _⟩ => ⟨S2x8x16384x64, .f32⟩
  | .hbm, ⟨3, _⟩ => ⟨S2x8x16384x16384, .f32⟩
  | .hbm, ⟨4, _⟩ => ⟨S_, .f32⟩
  | .hbm, ⟨5, _⟩ => ⟨S_, .f32⟩
  | .hbm, ⟨6, _⟩ => ⟨S2x8x16384x16384, .f32⟩
  | .hbm, ⟨7, _⟩ => ⟨S2x8x16384x16384, .f32⟩
  | .hbm, ⟨8, _⟩ => ⟨S_, .f32⟩
  | .hbm, ⟨9, _⟩ => ⟨S2x8x16384, .f32⟩
  | .hbm, ⟨10, _⟩ => ⟨S_, .f32⟩
  | .hbm, ⟨11, _⟩ => ⟨S2x8x16384, .f32⟩
  | .hbm, ⟨12, _⟩ => ⟨S2x8x16384, .f32⟩
  | .hbm, ⟨13, _⟩ => ⟨S2x8x16384x1, .f32⟩
  | .hbm, ⟨14, _⟩ => ⟨S2x8x16384x16384, .f32⟩
  | .hbm, ⟨15, _⟩ => ⟨S2x8x16384x16384, .f32⟩
  | .hbm, ⟨16, _⟩ => ⟨S2x8x16384x16384, .f32⟩
  | .hbm, ⟨17, _⟩ => ⟨S_, .f32⟩
  | .hbm, ⟨18, _⟩ => ⟨S2x8x16384, .f32⟩
  | .hbm, ⟨19, _⟩ => ⟨S2x8x16384x1, .f32⟩
  | .hbm, ⟨20, _⟩ => ⟨S2x8x16384x16384, .f32⟩
  | .hbm, ⟨21, _⟩ => ⟨S2x8x16384x16384, .f32⟩
  | .hbm, ⟨22, _⟩ => ⟨S2x8x16384x64, .f32⟩
  | .hbm, ⟨23, _⟩ => ⟨S2x8x64x16384, .f32⟩
  | .hbm, ⟨24, _⟩ => ⟨S2x8x64x16384, .bf16⟩
  | _, _ => ⟨S2x8x16384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel3.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1024x2816 : Shape := ⟨2, ![1024, 2816]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S1x1024, .f32⟩
  | .hbm, ⟨10, _⟩ => ⟨S2816x1024, .bf16⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x16384x1024 : Shape := ⟨3, ![2, 16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16384x2816 : Shape := ⟨3, ![2, 16384, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2x16384x1024, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S2x16384x1, .f32⟩
  | .hbm, ⟨15, _⟩ => ⟨S2x16384x1024, .f32⟩
  | .hbm, ⟨16, _⟩ => ⟨S2x16384x1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S2x16384x5632, .f32⟩
  | .hbm, ⟨21, _⟩ => ⟨S2x16384x2816, .f32⟩
  | .hbm, ⟨22, _⟩ => ⟨S2x16384x2816, .f32⟩
  | .hbm, ⟨23, _⟩ => ⟨S2x16384x2816, .f32⟩
  | .hbm, ⟨24, _⟩ => ⟨S2x16384x2816, .f32⟩
  | .hbm, ⟨25, _⟩ => ⟨S_, .f32⟩
  | .hbm, ⟨26, _⟩ => ⟨S2x16384x2816, .f32⟩
  | .hbm, ⟨27, _⟩ => ⟨S2x16384x2816, .f32⟩
  | .hbm, ⟨28, _⟩ => ⟨S_, .f32⟩
  | .hbm, ⟨29, _⟩ => ⟨S2x16384x2816, .f32⟩
  | .hbm, ⟨30, _⟩ => ⟨S2x16384x2816, .f32⟩
  | .hbm, ⟨31, _⟩ => ⟨S2x16384x2816, .f32⟩
  | .hbm, ⟨32, _⟩ => ⟨S2x16384x2816, .f32⟩
  | .hbm, ⟨33, _⟩ => ⟨S2x16384x1024, .f32⟩
  | .hbm, ⟨34, _⟩ => ⟨S_, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel4.lean ====
abbrev S2x16384x1024 : Shape := ⟨3, ![2, 16384, 1024]⟩
abbrev S1024 : Shape := ⟨1, ![1024]⟩
abbrev S2x16384x512 : Shape := ⟨3, ![2, 16384, 512]⟩
abbrev S1024x8096 : Shape := ⟨2, ![1024, 8096]⟩
abbrev S4x512x1024 : Shape := ⟨3, ![4, 512, 1024]⟩
abbrev S1024x1024 : Shape := ⟨2, ![1024, 1024]⟩
abbrev S2x512x16384 : Shape := ⟨3, ![2, 512, 16384]⟩
abbrev S1024x4096 : Shape := ⟨2, ![1024, 4096]⟩
abbrev S1024x512 : Shape := ⟨2, ![1024, 512]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩

abbrev nBuf : Space → Nat
  | .hbm => 23
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x16384x512, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x16384x512, .f32⟩
  | .hbm, ⟨7, _⟩ => ⟨S1024x8096, .f32⟩
  | .hbm, ⟨8, _⟩ => ⟨S4x512x1024, .f32⟩
  | .hbm, ⟨9, _⟩ => ⟨S1024x1024, .f32⟩
  | .hbm, ⟨10, _⟩ => ⟨S2x512x16384, .f32⟩
  | .hbm, ⟨11, _⟩ => ⟨S2x512x16384, .bf16⟩
  | .hbm, ⟨12, _⟩ => ⟨S2x512x16384, .f32⟩
  | .hbm, ⟨13, _⟩ => ⟨S2x512x16384, .bf16⟩
  | .hbm, ⟨14, _⟩ => ⟨S2x16384x512, .bf16⟩
  | .hbm, ⟨15, _⟩ => ⟨S1024x4096, .f32⟩
  | .hbm, ⟨16, _⟩ => ⟨S1024x512, .f32⟩
  | .hbm, ⟨17, _⟩ => ⟨S1x1024, .f32⟩
  | .hbm, ⟨18, _⟩ => ⟨S1024x4096, .bf16⟩
  | .hbm, ⟨19, _⟩ => ⟨S1024x512, .bf16⟩
  | .hbm, ⟨20, _⟩ => ⟨S4x512x1024, .bf16⟩
  | .hbm, ⟨21, _⟩ => ⟨S1024x1024, .bf16⟩
  | .hbm, ⟨22, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1024x4096, .bf16⟩
  | .local _ .vmem, ⟨14, _⟩ => ⟨S1024x512, .bf16⟩
  | .local _ .vmem, ⟨15, _⟩ => ⟨S4x512x1024, .bf16⟩
  | .local _ .vmem, ⟨16, _⟩ => ⟨S1024x1024, .bf16⟩
  | .local _ .vmem, ⟨17, _⟩ => ⟨S1x512x1024, .f32⟩
  | .local _ .vmem, ⟨18, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S2x16384x1024 : Shape := ⟨3, ![2, 16384, 1024]⟩
abbrev S1024 : Shape := ⟨1, ![1024]⟩
abbrev S2x16384x512 : Shape := ⟨3, ![2, 16384, 512]⟩
abbrev S1024x8096 : Shape := ⟨2, ![1024, 8096]⟩
abbrev S4x512x1024 : Shape := ⟨3, ![4, 512, 1024]⟩
abbrev S1024x1024 : Shape := ⟨2, ![1024, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x8096 : Shape := ⟨3, ![2, 16384, 8096]⟩
abbrev S2x16384x4096 : Shape := ⟨3, ![2, 16384, 4096]⟩
abbrev S2x16384x1x512 : Shape := ⟨4, ![2, 16384, 1, 512]⟩
abbrev S2x16384x4x512 : Shape := ⟨4, ![2, 16384, 4, 512]⟩
abbrev S4x1024x2x16384 : Shape := ⟨4, ![4, 1024, 2, 16384]⟩
abbrev S2x16384x4x1024 : Shape := ⟨4, ![2, 16384, 4, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S2x16384x512, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x16384x512, .f32⟩
  | .hbm, ⟨7, _⟩ => ⟨S1024x8096, .f32⟩
  | .hbm, ⟨8, _⟩ => ⟨S4x512x1024, .f32⟩
  | .hbm, ⟨9, _⟩ => ⟨S1024x1024, .f32⟩
  | .hbm, ⟨10, _⟩ => ⟨S2x16384x1024, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x1024, .f32⟩
  | .hbm, ⟨22, _⟩ => ⟨S2x16384x1024, .f32⟩
  | .hbm, ⟨23, _⟩ => ⟨S1x1x1024, .f32⟩
  | .hbm, ⟨24, _⟩ => ⟨S2x16384x1024, .f32⟩
  | .hbm, ⟨25, _⟩ => ⟨S2x16384x1024, .f32⟩
  | .hbm, ⟨26, _⟩ => ⟨S2x16384x8096, .f32⟩
  | .hbm, ⟨27, _⟩ => ⟨S2x16384x512, .f32⟩
  | .hbm, ⟨28, _⟩ => ⟨S2x16384x4096, .f32⟩
  | .hbm, ⟨29, _⟩ => ⟨S2x16384x512, .f32⟩
  | .hbm, ⟨30, _⟩ => ⟨S2x16384x512, .f32⟩
  | .hbm, ⟨31, _⟩ => ⟨S_, .f32⟩
  | .hbm, ⟨32, _⟩ => ⟨S2x16384x512, .f32⟩
  | .hbm, ⟨33, _⟩ => ⟨S2x16384x512, .f32⟩
  | .hbm, ⟨34, _⟩ => ⟨S2x16384x512, .f32⟩
  | .hbm, ⟨35, _⟩ => ⟨S_, .f32⟩
  | .hbm, ⟨36, _⟩ => ⟨S2x16384x512, .f32⟩
  | .hbm, ⟨37, _⟩ => ⟨S2x16384x512, .f32⟩
  | .hbm, ⟨38, _⟩ => ⟨S2x16384x512, .f32⟩
  | .hbm, ⟨39, _⟩ => ⟨S_, .f32⟩
  | .hbm, ⟨40, _⟩ => ⟨S2x16384x512, .f32⟩
  | .hbm, ⟨41, _⟩ => ⟨S2x16384x512, .f32⟩
  | .hbm, ⟨42, _⟩ => ⟨S_, .f32⟩
  | .hbm, ⟨43, _⟩ => ⟨S2x16384x512, .f32⟩
  | .hbm, ⟨44, _⟩ => ⟨S2x16384x512, .f32⟩
  | .hbm, ⟨45, _⟩ => ⟨S2x16384x512, .f32⟩
  | .hbm, ⟨46, _⟩ => ⟨S2x16384x512, .f32⟩
  | .hbm, ⟨47, _⟩ => ⟨S2x16384x512, .f32⟩
  | .hbm, ⟨48, _⟩ => ⟨S2x16384x1x512, .f32⟩
  | .hbm, ⟨49, _⟩ => ⟨S2x16384x1x512, .f32⟩
  | .hbm, ⟨50, _⟩ => ⟨S2x16384x1x512, .f32⟩
  | .hbm, ⟨51, _⟩ => ⟨S2x16384x1x512, .f32⟩
  | .hbm, ⟨52, _⟩ => ⟨S2x16384x4x512, .f32⟩
  | .hbm, ⟨53, _⟩ => ⟨S4x1024x2x16384, .f32⟩
  | .hbm, ⟨54, _⟩ => ⟨S2x16384x4x1024, .f32⟩
  | .hbm, ⟨55, _⟩ => ⟨S2x16384x4x1024, .f32⟩
  | .hbm, ⟨56, _⟩ => ⟨S2x16384x4x1024, .f32⟩
  | .hbm, ⟨57, _⟩ => ⟨S2x16384x4x1024, .f32⟩
  | .hbm, ⟨58, _⟩ => ⟨S_, .f32⟩
  | .hbm, ⟨59, _⟩ => ⟨S2x16384x4x1024, .f32⟩
  | .hbm, ⟨60, _⟩ => ⟨S2x16384x4x1024, .f32⟩
  | .hbm, ⟨61, _⟩ => ⟨S_, .f32⟩
  | .hbm, ⟨62, _⟩ => ⟨S2x16384x4x1024, .f32⟩
  | .hbm, ⟨63, _⟩ => ⟨S2x16384x4x1024, .f32⟩
  | .hbm, ⟨64, _⟩ => ⟨S2x16384x4x1024, .f32⟩
  | .hbm, ⟨65, _⟩ => ⟨S_, .f32⟩
  | .hbm, ⟨66, _⟩ => ⟨S2x16384x1024, .f32⟩
  | .hbm, ⟨67, _⟩ => ⟨S2x16384x1024, .f32⟩
  | .hbm, ⟨68, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Kernel5.lean ====
abbrev S2x16384x1024 : Shape := ⟨3, ![2, 16384, 1024]⟩
abbrev S1024 : Shape := ⟨1, ![1024]⟩
abbrev S1024x8096 : Shape := ⟨2, ![1024, 8096]⟩
abbrev S3x512 : Shape := ⟨2, ![3, 512]⟩
abbrev S512 : Shape := ⟨1, ![512]⟩
abbrev S1024x1536 : Shape := ⟨2, ![1024, 1536]⟩
abbrev S1x1024 : Shape := ⟨2, ![1, 1024]⟩
abbrev S1x512 : Shape := ⟨2, ![1, 512]⟩
abbrev S2x16384x512 : Shape := ⟨3, ![2, 16384, 512]⟩
abbrev S1x512x1024 : Shape := ⟨3, ![1, 512, 1024]⟩
abbrev S1x8x1024 : Shape := ⟨3, ![1, 8, 1024]⟩
abbrev S1x512x512 : Shape := ⟨3, ![1, 512, 512]⟩
abbrev S528x512 : Shape := ⟨2, ![528, 512]⟩
abbrev S8x1024 : Shape := ⟨2, ![8, 1024]⟩
abbrev S512x1024 : Shape := ⟨2, ![512, 1024]⟩
abbrev S528x1024 : Shape := ⟨2, ![528, 1024]⟩
abbrev S528 : Shape := ⟨1, ![528]⟩
abbrev S528x1 : Shape := ⟨2, ![528, 1]⟩
abbrev S528x1536 : Shape := ⟨2, ![528, 1536]⟩
abbrev S512x512 : Shape := ⟨2, ![512, 512]⟩

abbrev nBuf : Space → Nat
  | .hbm => 10
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x8096, .f32⟩
  | .hbm, ⟨3, _⟩ => ⟨S3x512, .f32⟩
  | .hbm, ⟨4, _⟩ => ⟨S512, .f32⟩
  | .hbm, ⟨5, _⟩ => ⟨S1024x1536, .f32⟩
  | .hbm, ⟨6, _⟩ => ⟨S1x1024, .f32⟩
  | .hbm, ⟨7, _⟩ => ⟨S1024x1536, .bf16⟩
  | .hbm, ⟨8, _⟩ => ⟨S1x512, .f32⟩
  | .hbm, ⟨9, _⟩ => ⟨S2x16384x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x1536, .bf16⟩
  | .local _ .vmem, ⟨8, _⟩ => ⟨S3x512, .f32⟩
  | .local _ .vmem, ⟨9, _⟩ => ⟨S1x512, .f32⟩
  | .local _ .vmem, ⟨10, _⟩ => ⟨S1x512x512, .bf16⟩
  | .local _ .vmem, ⟨11, _⟩ => ⟨S1x512x512, .bf16⟩
  | .local _ .vmem, ⟨12, _⟩ => ⟨S528x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c2047_i32 : BitVec 32 := 2047#32
  let v2 : BitVec 32 := Scalar.minsi v1 c2047_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x16384x1024 : Shape := ⟨3, ![2, 16384, 1024]⟩
abbrev S1024 : Shape := ⟨1, ![1024]⟩
abbrev S1024x8096 : Shape := ⟨2, ![1024, 8096]⟩
abbrev S3x512 : Shape := ⟨2, ![3, 512]⟩
abbrev S512 : Shape := ⟨1, ![512]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x8096 : Shape := ⟨3, ![2, 16384, 8096]⟩
abbrev S2x16384x1536 : Shape := ⟨3, ![2, 16384, 1536]⟩
abbrev S2x16384x512 : Shape := ⟨3, ![2, 16384, 512]⟩
abbrev S2x16386x512 : Shape := ⟨3, ![2, 16386, 512]⟩
abbrev S1x512 : Shape := ⟨2, ![1, 512]⟩
abbrev S1x1x512 : Shape := ⟨3, ![1, 1, 512]⟩

abbrev nBuf : Space → Nat
  | .hbm => 55
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x8096, .f32⟩
  | .hbm, ⟨3, _⟩ => ⟨S3x512, .f32⟩
  | .hbm, ⟨4, _⟩ => ⟨S512, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x8096, .f32⟩
  | .hbm, ⟨22, _⟩ => ⟨S2x16384x1536, .f32⟩
  | .hbm, ⟨23, _⟩ => ⟨S2x16384x512, .f32⟩
  | .hbm, ⟨24, _⟩ => ⟨S2x16384x512, .f32⟩
  | .hbm, ⟨25, _⟩ => ⟨S2x16384x512, .f32⟩
  | .hbm, ⟨26, _⟩ => ⟨S2x16384x512, .f32⟩
  | .hbm, ⟨27, _⟩ => ⟨S_, .i32⟩
  | .hbm, ⟨28, _⟩ => ⟨S_, .f32⟩
  | .hbm, ⟨29, _⟩ => ⟨S2x16386x512, .f32⟩
  | .hbm, ⟨30, _⟩ => ⟨S1x512, .f32⟩
  | .hbm, ⟨31, _⟩ => ⟨S512, .f32⟩
  | .hbm, ⟨32, _⟩ => ⟨S2x16384x512, .f32⟩
  | .hbm, ⟨33, _⟩ => ⟨S1x1x512, .f32⟩
  | .hbm, ⟨34, _⟩ => ⟨S2x16384x512, .f32⟩
  | .hbm, ⟨35, _⟩ => ⟨S2x16384x512, .f32⟩
  | .hbm, ⟨36, _⟩ => ⟨S1x1x512, .f32⟩
  | .hbm, ⟨37, _⟩ => ⟨S2x16384x512, .f32⟩
  | .hbm, ⟨38, _⟩ => ⟨S2x16384x512, .f32⟩
  | .hbm, ⟨39, _⟩ => ⟨S1x512, .f32⟩
  | .hbm, ⟨40, _⟩ => ⟨S512, .f32⟩
  | .hbm, ⟨41, _⟩ => ⟨S2x16384x512, .f32⟩
  | .hbm, ⟨42, _⟩ => ⟨S1x1x512, .f32⟩
  | .hbm, ⟨43, _⟩ => ⟨S2x16384x512, .f32⟩
  | .hbm, ⟨44, _⟩ => ⟨S2x16384x512, .f32⟩
  | .hbm, ⟨45, _⟩ => ⟨S2x16384x512, .f32⟩
  | .hbm, ⟨46, _⟩ => ⟨S1x512, .f32⟩
  | .hbm, ⟨47, _⟩ => ⟨S512, .f32⟩
  | .hbm, ⟨48, _⟩ => ⟨S2x16384x512, .f32⟩
  | .hbm, ⟨49, _⟩ => ⟨S1x1x512, .f32⟩
  | .hbm, ⟨50, _⟩ => ⟨S2x16384x512, .f32⟩
  | .hbm, ⟨51, _⟩ => ⟨S2x16384x512, .f32⟩
  | .hbm, ⟨52, _⟩ => ⟨S2x16384x512, .f32⟩
  | .hbm, ⟨53, _⟩ => ⟨S2x16384x512, .f32⟩
  | .hbm, ⟨54, _⟩ => ⟨S2x16384x512, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Proof.FfnRow.lean ====
module

public import Idealize.ShloMosaic.PureOps.Ideal
public import Idealize.ShloMosaic.Lib.Pointwise

@[expose] public section

noncomputable section

/-! One row of the feed-forward half step: the row normalised, the two products gated, the third product, half of it added
to the row. -/

namespace Cert.Ffn

open Idealize.ShloMosaic

variable (x g : Fin 1024 → EReal)

/-- The row over its root mean square, times the gains. -/
def norm (k : Fin 1024) : EReal :=
  x k * Ideal.rsqrt (Ideal.div (∑ k, x k * x k) (Ideal.ofBits .f32 0x44800000#32) + Ideal.ofBits .f32 0x358637BD#32) * g k

/-- The gated product in one hidden channel: `u` is the channel's column of the gate's weights, `w` of the other's. -/
def act (u w : Fin 1024 → EReal) : EReal :=
  (∑ k, norm x g k * u k) * Ideal.logistic (∑ k, norm x g k * u k) * ∑ k, norm x g k * w k

/-- The half step in one channel: `u f` and `w f` are the columns of hidden channel `f`, `o f` its weight. -/
def row (u w : Fin 2816 → Fin 1024 → EReal) (o : Fin 2816 → EReal) (n : Fin 1024) : EReal :=
  x n + Ideal.ofBits .f32 0x3F000000#32 * ∑ f, act x g (u f) (w f) * o f

end Cert.Ffn

end
-- ==== Proof.ConvRow.lean ====
module

public import proofs.«01_k».proof.Proof.FfnRow

@[expose] public section

noncomputable section

/-! One row of the short convolution: three taps of a gated projection of the normalised rows, gated again. -/

namespace Cert.Conv

open Idealize.ShloMosaic

/-- One channel of the projection of a normalised row: `u` is the channel's column of the weights. -/
def proj (x g u : Fin 1024 → EReal) : EReal := ∑ k, Ffn.norm x g k * u k

/-- A channel padded with one zero before it and one behind it. -/
def padded (z : Fin 16384 → EReal) (j : ℕ) : EReal := if h : 1 ≤ j ∧ j < 16385 then z ⟨j - 1, by omega⟩ else 0

/-- The gated taps in one channel. -/
def row (a b w0 w1 w2 z0 z1 z2 : EReal) : EReal := a * (b + w0 * z0 + w1 * z1 + w2 * z2)

end Cert.Conv

end
-- ==== Proof.ConvBody.lean ====
module

public import proofs.«01_k».proof.Proof.ConvRow
public import proofs.«01_k».proof.Proof.Gen.Kernel5Ideal.Value
public import Idealize.ShloMosaic.Lib.Pipeline.ValueKit
public import Idealize.ShloMosaic.Lib.VecWindow

@[expose] public section

set_option maxRecDepth 16384

noncomputable section

/-! What the body of the short convolution's call stores, read at an index. -/

namespace Cert.Kernel5Ideal.Att

open Cert.Kernel5Ideal Cert.Kernel5Ideal.Gen
open Idealize.ShloMosaic Idealize.ShloMosaic.TcCoe

variable (x0 : FVec Ideal S1x512x1024 .f32) (x1 x2 : FVec Ideal S1x8x1024 .f32) (x3 : FVec Ideal S1x1024 .f32) (x4 : FVec Ideal S1024x1536 .bf16)
  (x5 : FVec Ideal S3x512 .f32) (x6 : FVec Ideal S1x512 .f32)

/-- A row of the block between its neighbours' rows. -/
def rows (q : Fin 528) (k : Fin 1024) : EReal :=
  if h : q.val < 8 then x1 (ix3 0 ⟨q.val, h⟩ k) else if h' : q.val < 520 then x0 (ix3 0 ⟨q.val - 8, by omega⟩ k) else x2 (ix3 0 ⟨q.val - 520, by omega⟩ k)

/-- The rows side by side. -/
def CC : FVec Ideal S528x1024 .f32 :=
  concatenate S528x1024 0 [⟨S8x1024, shapeCast S8x1024 x1 shapeCasts_S1x8x1024_S8x1024⟩, ⟨S512x1024, shapeCast S512x1024 x0 shapeCasts_S1x512x1024_S512x1024⟩,
    ⟨S8x1024, shapeCast S8x1024 x2 shapeCasts_S1x8x1024_S8x1024⟩] concatenates_S8x1024_S512x1024_S8x1024_S528x1024_d0

/-- An entry of the rows side by side. -/
theorem CC_at (q : Fin 528) (k : Fin 1024) : CC x0 x1 x2 (ix2 q k) = rows x0 x1 x2 q k := by
  unfold rows
  pointwise [CC]
  by_cases h : q.val < 8
  · rw [dif_pos h, dif_pos h]
  · rw [dif_neg h, dif_neg h]
    by_cases h' : q.val < 520
    · rw [dif_pos (by omega), dif_pos h']
    · rw [dif_neg (by omega), dif_neg h']
      refine congrArg x2 ?_
      idx_ext

/-- The normalised rows. -/
def HH (C : FVec Ideal S528x1024 .f32) : FVec Ideal S528x1024 .f32 :=
  mulf (mulf C (broadcastTo S528x1024 (rsqrt (addf (divf (shapeCast S528x1 (multiReduction .add [1] S528 (mulf C C) 0x00000000#32 reduces_S528x1024_S528 (.inl rfl) rfl) shapeCasts_S528_S528x1)
    (broadcast S528x1 (Scalar.ofBits .f32 0x44800000#32))) (broadcast S528x1 (Scalar.ofBits .f32 0x358637BD#32)))) broadcasts_S528x1_S528x1024))
    (broadcastTo S528x1024 (shapeCast S1x1024 x3 shapeCasts_S1x1024_S1x1024) broadcasts_S1x1024_S528x1024)

/-- An entry of the normalised rows. -/
theorem HH_at (C : FVec Ideal S528x1024 .f32) (q : Fin 528) (k : Fin 1024) :
    HH x3 C (ix2 q k) = Cert.Ffn.norm (fun k => C (ix2 q k)) (fun k => x3 (ix2 0 k)) k := by
  unfold Cert.Ffn.norm
  pointwise [HH]

/-- The projection of a matrix of rows. -/
def UU (C : FVec Ideal S528x1024 .f32) : FVec Ideal S528x1536 .f32 :=
  matmul dot_S528x1024_S1024x1536_S528x1536_1_0_0_1_n_n none (truncf .bf16 (HH x3 C) bitsLt_bf16_f32 : FVec Ideal S528x1024 .bf16)
    (shapeCast S1024x1536 x4 shapeCasts_S1024x1536_S1024x1536) (constant S528x1536 .f32 0x00000000#32)

/-- An entry of the projection of a matrix of rows. -/
theorem UU_at (C : FVec Ideal S528x1024 .f32) (q : Fin 528) (f : Fin 1536) :
    UU x3 x4 C (ix2 q f) = ∑ k : Fin 1024, HH x3 C (ix2 q k) * x4 (ix2 k f) := by
  pointwise [UU]

/-- The projected rows. -/
theorem pay3_at (q : Fin 528) (f : Fin 1536) : k0_pay3 (F := Ideal) x1 x0 x2 x3 x4 (ix2 q f)
    = Cert.Conv.proj (rows x0 x1 x2 q) (fun k => x3 (ix2 0 k)) (fun k => x4 (ix2 k f)) := by
  have e : k0_pay3 (F := Ideal) x1 x0 x2 x3 x4 = UU x3 x4 (CC x0 x1 x2) := rfl
  rw [e, UU_at]
  simp only [HH_at, CC_at, Cert.Conv.proj]

/-- The products of the projected rows. -/
theorem pay4_at (q : Fin 528) (e : Fin 512) : k0_pay4 (F := Ideal) x1 x0 x2 x3 x4 (ix2 q e)
    = k0_pay3 (F := Ideal) x1 x0 x2 x3 x4 (ix2 q ⟨512 + e.val, by omega⟩) * k0_pay3 (F := Ideal) x1 x0 x2 x3 x4 (ix2 q ⟨1024 + e.val, by omega⟩) := by
  pointwise [k0_pay4]

/-- The last row that is kept, plus one. -/
def hi (i : grid0.Coords) : BitVec 32 := Scalar.select (Scalar.cmpi .eq (BitVec.ofNat 32 (i 1).val) 31#32) 520#32 528#32

/-- The word that keeps or drops a row. -/
def keep (i : Fin 32) (q : Fin 528) : BitVec 32 :=
  BitVec.setWidth 32 (Scalar.cmpi .sge (BitVec.ofNat 32 q.val) (Scalar.select (Scalar.cmpi .eq (BitVec.ofNat 32 i.val) 0#32) 8#32 0#32)
    &&& Scalar.cmpi .slt (BitVec.ofNat 32 q.val) (Scalar.select (Scalar.cmpi .eq (BitVec.ofNat 32 i.val) 31#32) 520#32 528#32))

set_option maxHeartbeats 1000000 in
/-- A row is dropped before the first block and behind the last. -/
theorem keep_eq : ∀ (i : Fin 32) (q : Fin 528), keep i q = if (i.val = 0 ∧ q.val < 8) ∨ (i.val = 31 ∧ 520 ≤ q.val) then 0#32 else 1#32 := by
  decide +kernel

/-- What the body keeps of the products. -/
def kept (i : grid0.Coords) : FVec Ideal S528x512 .f32 :=
  k0_pay1 (F := Ideal) (k0_pay4 x1 x0 x2 x3 x4) (iota .tc S528x1 32 [0] iota_S528x1_d0_w32) (hi i) (k0_pay5 i)

/-- An entry of what the body keeps. -/
theorem kept_at (i : grid0.Coords) (p : Fin 32) (hp : (i 1).val = p.val) (q : Fin 528) (e : Fin 512) : kept x0 x1 x2 x3 x4 i (ix2 q e)
    = k0_pay4 (F := Ideal) x1 x0 x2 x3 x4 (ix2 q e) * FloatOps.sitofp (F := Ideal) .f32 (keep p q) := by
  unfold keep
  rw [← hp]
  pointwise [kept, k0_pay1, k0_pay5, hi]
  rfl

/-- The stored entry, from three windows of the kept products. -/
theorem pay2_at (u : FVec Ideal S528x1536 .f32) (z0 z1 z2 : FVec Ideal S512x512 .f32) (r e : Fin 512) :
    k0_pay2 (F := Ideal) u x5 x6 z0 z1 z2 (ix3 0 r e) = Cert.Conv.row (u (ix2 ⟨8 + r.val, by omega⟩ ⟨e.val, by omega⟩)) (x6 (ix2 0 e))
      (x5 (ix2 0 e)) (x5 (ix2 1 e)) (x5 (ix2 2 e)) (z0 (ix2 r e)) (z1 (ix2 r e)) (z2 (ix2 r e)) := by
  unfold Cert.Conv.row
  pointwise [k0_pay2]

/-- A window of the kept products. -/
def win (o : ℕ) (h : o ≤ 16) (z : FVec Ideal S528x512 .f32) : FVec Ideal S512x512 .f32 :=
  fun y => z (ix2 ⟨o + (y 0).val, by have : (y 0).val < 512 := (y 0).isLt; omega⟩ (y 1))

/-- What the body stores. -/
def stored (i : grid0.Coords) : FVec Ideal S1x512x512 .bf16 :=
  k0_pay2 (F := Ideal) (k0_pay3 x1 x0 x2 x3 x4) x5 x6 (win 7 (by omega) (kept x0 x1 x2 x3 x4 i)) (win 8 (by omega) (kept x0 x1 x2 x3 x4 i))
    (win 9 (by omega) (kept x0 x1 x2 x3 x4 i))

/-- A window of the kept products, as the body reads it. -/
theorem window_eq (o : ℕ) (h : o ≤ 16) (inb : ∀ a, (![o, 0] : Fin 2 → ℕ) a + (![512, 512] : Fin 2 → ℕ) a ≤ S528x512.size a) (z : FVec Ideal S528x512 .f32) :
    VecWindow.window (s := S528x512) z ![o, 0] ![512, 512] inb = win o h z := by
  funext y
  refine congrArg z (funext fun a => Fin.ext ?_)
  match a with
  | 0 => show o + 1 * (y 0).val = o + (y 0).val; omega
  | 1 => show 0 + 1 * (y 1).val = (y 1).val; omega

/-- The same values give the same stored entries. -/
theorem pay2_congr {u u' : FVec Ideal S528x1536 .f32} {a a' : FVec Ideal S3x512 .f32} {b b' : FVec Ideal S1x512 .f32} {z0 z0' z1 z1' z2 z2' : FVec Ideal S512x512 .f32}
    (hu : u = u') (ha : a = a') (hb : b = b') (h0 : z0 = z0') (h1 : z1 = z1') (h2 : z2 = z2') :
    k0_pay2 (F := Ideal) u a b z0 z1 z2 = k0_pay2 u' a' b' z0' z1' z2' := by
  rw [hu, ha, hb, h0, h1, h2]

/-- The same windows give the same projected rows. -/
theorem pay3_congr {y0 : FVec Ideal S1x512x1024 .f32} {y1 y2 : FVec Ideal S1x8x1024 .f32} {y3 : FVec Ideal S1x1024 .f32} {y4 : FVec Ideal S1024x1536 .bf16}
    (h0 : y0 = x0) (h1 : y1 = x1) (h2 : y2 = x2) (h3 : y3 = x3) (h4 : y4 = x4) : k0_pay3 (F := Ideal) y1 y0 y2 y3 y4 = k0_pay3 x1 x0 x2 x3 x4 := by
  rw [h0, h1, h2, h3, h4]

/-- The same windows give the same kept products. -/
theorem kept_congr (i : grid0.Coords) {y0 : FVec Ideal S1x512x1024 .f32} {y1 y2 : FVec Ideal S1x8x1024 .f32} {y3 : FVec Ideal S1x1024 .f32} {y4 : FVec Ideal S1024x1536 .bf16}
    (h0 : y0 = x0) (h1 : y1 = x1) (h2 : y2 = x2) (h3 : y3 = x3) (h4 : y4 = x4) : kept y0 y1 y2 y3 y4 i = kept x0 x1 x2 x3 x4 i := by
  rw [h0, h1, h2, h3, h4]

section

variable (c : Dev nD) (i : grid0.Coords) (arg2 : Memref sig .tc .vmem S1x512x1024 .f32) (harg2 : arg2.IsWhole) (arg3 : Memref sig .tc .vmem S1x8x1024 .f32)
  (harg3 : arg3.IsWhole) (arg4 : Memref sig .tc .vmem S1x8x1024 .f32) (harg4 : arg4.IsWhole) (arg5 : Memref sig .tc .vmem S1x1024 .f32) (harg5 : arg5.IsWhole)
  (arg6 : Memref sig .tc .vmem S1024x1536 .bf16) (harg6 : arg6.IsWhole) (arg7 : Memref sig .tc .vmem S3x512 .f32) (harg7 : arg7.IsWhole)
  (arg8 : Memref sig .tc .vmem S1x512 .f32) (harg8 : arg8.IsWhole) (arg9 : Memref sig .tc .vmem S1x512x512 .bf16) (harg9 : arg9.IsWhole)
  (arg10 : Memref sig .tc .vmem S528x512 .f32) (harg10 : arg10.IsWhole)

/-- What the scratch buffer holds after its store. -/
theorem scratch_eq : arg10.view.read (Elt Ideal) (arg10.view.writes (Elt Ideal) arg10.view.junk
      (kernelRun0_A.sl.HS0_1 c i arg2 harg2 arg3 harg3 arg4 harg4 arg5 harg5 arg6 harg6 x0 x1 x2 x3 x4)) = kept x0 x1 x2 x3 x4 i := by
  unfold kernelRun0_A.sl.HS0_1
  refine (View.read_writes_full _ _ _ _ _).trans ?_
  exact kept_congr x0 x1 x2 x3 x4 i ((View.readAt_full arg2.view _ _).trans (harg2.read_unread (Val := Elt Ideal) x0)) ((View.readAt_full arg3.view _ _).trans (harg3.read_unread (Val := Elt Ideal) x1))
    ((View.readAt_full arg4.view _ _).trans (harg4.read_unread (Val := Elt Ideal) x2)) ((View.readAt_full arg5.view _ _).trans (harg5.read_unread (Val := Elt Ideal) x3))
    ((View.readAt_full arg6.view _ _).trans (harg6.read_unread (Val := Elt Ideal) x4))

/-- What the run leaves in the output's buffer is what the body stores. -/
theorem run_eq :
    out0_A_7 (F := Ideal) c i arg2 harg2 arg3 harg3 arg4 harg4 arg5 harg5 arg6 harg6 arg7 harg7 arg8 harg8 arg9 harg9 arg10 harg10 x0 x1 x2 x3 x4 x5 x6
      = stored x0 x1 x2 x3 x4 x5 x6 i := by
  unfold out0_A_7 kernelRun0_A
  dsimp only
  unfold kernelRun0_A.sl.v49 kernelRun0_A.sl.v55 kernelRun0_A.sl.v60 kernelRun0_A.sl.r
  refine (View.read_writes_full _ _ _ _ _).trans ?_
  have hs := scratch_eq x0 x1 x2 x3 x4 c i arg2 harg2 arg3 harg3 arg4 harg4 arg5 harg5 arg6 harg6 arg10
  unfold stored
  refine pay2_congr ?_ ((View.readAt_full arg7.view _ _).trans (harg7.read_unread (Val := Elt Ideal) x5)) ((View.readAt_full arg8.view _ _).trans (harg8.read_unread (Val := Elt Ideal) x6)) ?_ ?_ ?_
  · exact pay3_congr x0 x1 x2 x3 x4 ((View.readAt_full arg2.view _ _).trans (harg2.read_unread (Val := Elt Ideal) x0)) ((View.readAt_full arg3.view _ _).trans (harg3.read_unread (Val := Elt Ideal) x1))
      ((View.readAt_full arg4.view _ _).trans (harg4.read_unread (Val := Elt Ideal) x2)) ((View.readAt_full arg5.view _ _).trans (harg5.read_unread (Val := Elt Ideal) x3))
      ((View.readAt_full arg6.view _ _).trans (harg6.read_unread (Val := Elt Ideal) x4))
  · rw [← hs]; exact (View.readAt_unit arg10.view _ _ rfl inb_S528x512_S512x512_7_0).trans (window_eq 7 _ _ _)
  · rw [← hs]; exact (View.readAt_unit arg10.view _ _ rfl inb_S528x512_S512x512_8_0).trans (window_eq 8 _ _ _)
  · rw [← hs]; exact (View.readAt_unit arg10.view _ _ rfl inb_S528x512_S512x512_9_0).trans (window_eq 9 _ _ _)

end

end Cert.Kernel5Ideal.Att

end
-- ==== Proof.ConvRefer.lean ====
module

public import proofs.«01_k».proof.Proof.ConvRow
public import proofs.«01_k».proof.Proof.Gen.Reference5Ideal.Run
public import Idealize.ShloMosaic.Lib.IdealHost

@[expose] public section

set_option maxRecDepth 16384

noncomputable section

/-! The short convolution reference's result, read at an index. -/

namespace Cert.Reference5Ideal.Att

open Cert.Reference5Ideal Cert.Reference5Ideal.Gen
open Idealize.ShloMosaic Idealize.ShloMosaic.TcCoe

variable (X : FVec Ideal S2x16384x1024 .f32) (G : FVec Ideal S1024 .f32) (WI : FVec Ideal S1024x8096 .f32) (W : FVec Ideal S3x512 .f32) (B : FVec Ideal S512 .f32)

/-- The normalised activations. -/
def NRM : FVec Ideal S2x16384x1024 .f32 :=
  mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 G))

/-- The input projection. -/
def PR : FVec Ideal S2x16384x8096 .f32 :=
  Host.dotGeneral dot_S2x16384x1024_S1024x8096_S2x16384x8096_2_0_01_1_n_n none (NRM X G) WI

/-- The columns of the short convolution. -/
def SU : FVec Ideal S2x16384x1536 .f32 := extractStridedSlice S2x16384x1536 ![0, 0, 768] (PR X G WI) slices_S2x16384x8096_S2x16384x1536_0_0_768

/-- The gated values. -/
def ZZ : FVec Ideal S2x16384x512 .f32 :=
  mulf (extractStridedSlice S2x16384x512 ![0, 0, 512] (SU X G WI) slices_S2x16384x1536_S2x16384x512_0_0_512)
    (extractStridedSlice S2x16384x512 ![0, 0, 1024] (SU X G WI) slices_S2x16384x1536_S2x16384x512_0_0_1024)

/-- The gated values between two rows of zeros. -/
def PD : FVec Ideal S2x16386x512 .f32 :=
  pad S2x16386x512 ![0, 1, 0] ![0, 1, 0] ![0, 0, 0] (ZZ X G WI) (sitofp .f32 (constantI S_ 32 0#32)) pads_S2x16384x512_S2x16386x512_000_110_000 h_S_

/-- The reference's result. -/
def REF : FVec Ideal S2x16384x512 .bf16 :=
  truncf .bf16 (mulf (extractStridedSlice S2x16384x512 ![0, 0, 0] (SU X G WI) slices_S2x16384x1536_S2x16384x512_0_0_0)
    (addf (addf (addf (broadcastInDim S2x16384x512 ![0, 1, 2] bcast_S1x1x512_S2x16384x512_0_1_2 (broadcastInDim S1x1x512 ![2] bcast_S512_S1x1x512_2 B))
      (mulf (broadcastInDim S2x16384x512 ![0, 1, 2] bcast_S1x1x512_S2x16384x512_0_1_2 (broadcastInDim S1x1x512 ![2] bcast_S512_S1x1x512_2 (shapeCast _ (extractStridedSlice S1x512 ![0, 0] W slices_S3x512_S1x512_0_0) shapeCasts_S1x512_S512)))
        (extractStridedSlice S2x16384x512 ![0, 0, 0] (PD X G WI) slices_S2x16386x512_S2x16384x512_0_0_0)))
      (mulf (broadcastInDim S2x16384x512 ![0, 1, 2] bcast_S1x1x512_S2x16384x512_0_1_2 (broadcastInDim S1x1x512 ![2] bcast_S512_S1x1x512_2 (shapeCast _ (extractStridedSlice S1x512 ![1, 0] W slices_S3x512_S1x512_1_0) shapeCasts_S1x512_S512)))
        (extractStridedSlice S2x16384x512 ![0, 1, 0] (PD X G WI) slices_S2x16386x512_S2x16384x512_0_1_0)))
      (mulf (broadcastInDim S2x16384x512 ![0, 1, 2] bcast_S1x1x512_S2x16384x512_0_1_2 (broadcastInDim S1x1x512 ![2] bcast_S512_S1x1x512_2 (shapeCast _ (extractStridedSlice S1x512 ![2, 0] W slices_S3x512_S1x512_2_0) shapeCasts_S1x512_S512)))
        (extractStridedSlice S2x16384x512 ![0, 2, 0] (PD X G WI) slices_S2x16386x512_S2x16384x512_0_2_0)))) bitsLt_bf16_f32

/-- An entry of the normalised activations. -/
theorem NRM_at (b : Fin 2) (s : Fin 16384) (k : Fin 1024) : NRM X G (ix3 b s k) = Cert.Ffn.norm (fun k => X (ix3 b s k)) (fun k => G (ix1 k)) k := by
  unfold Cert.Ffn.norm
  pointwise [NRM]

/-- An entry of the input projection. -/
theorem PR_at (b : Fin 2) (s : Fin 16384) (f : Fin 8096) : PR X G WI (ix3 b s f)
    = Cert.Conv.proj (fun k => X (ix3 b s k)) (fun k => G (ix1 k)) (fun k => WI (ix2 k f)) := by
  refine Eq.trans (b := ∑ k : Fin 1024, NRM X G (ix3 b s k) * WI (ix2 k f)) (by pointwise [PR]) ?_
  simp only [NRM_at, Cert.Conv.proj]

/-- An entry of the columns of the short convolution. -/
theorem SU_at (b : Fin 2) (s : Fin 16384) (f : Fin 1536) : SU X G WI (ix3 b s f) = PR X G WI (ix3 b s ⟨768 + f.val, by omega⟩) := by
  pointwise [SU]

/-- An entry of the gated values. -/
theorem ZZ_at (b : Fin 2) (s : Fin 16384) (e : Fin 512) : ZZ X G WI (ix3 b s e)
    = SU X G WI (ix3 b s ⟨512 + e.val, by omega⟩) * SU X G WI (ix3 b s ⟨1024 + e.val, by omega⟩) := by
  pointwise [ZZ]

/-- An entry of the gated values between two rows of zeros. -/
theorem PD_at (b : Fin 2) (j : Fin 16386) (e : Fin 512) : PD X G WI (ix3 b j e) = Cert.Conv.padded (fun s => ZZ X G WI (ix3 b s e)) j.val := by
  unfold Cert.Conv.padded
  pointwise [PD]
  by_cases h : 1 ≤ j.val ∧ j.val < 16385
  · rw [dif_pos (by omega), dif_pos h]
  · rw [dif_neg (by omega), dif_neg h]
    show (((0#32 : BitVec 32).toInt : ℝ) : EReal) = 0
    simp

/-- An entry of the reference's result, of its gated values. -/
theorem REF_at (b : Fin 2) (s : Fin 16384) (e : Fin 512) : REF X G WI W B (ix3 b s e)
    = Cert.Conv.row (SU X G WI (ix3 b s ⟨e.val, by omega⟩)) (B (ix1 e)) (W (ix2 0 e)) (W (ix2 1 e)) (W (ix2 2 e))
      (PD X G WI (ix3 b ⟨s.val, by omega⟩ e)) (PD X G WI (ix3 b ⟨1 + s.val, by omega⟩ e)) (PD X G WI (ix3 b ⟨2 + s.val, by omega⟩ e)) := by
  unfold Cert.Conv.row
  pointwise [REF]

end Cert.Reference5Ideal.Att

end
-- ==== Proof.ConvValue.lean ====
module

public import proofs.«01_k».proof.Proof.ConvBody
public import proofs.«01_k».proof.Proof.ConvRefer

@[expose] public section

set_option maxRecDepth 16384

noncomputable section

/-! The short convolution call's result array is the reference's term of its arguments. -/

namespace Cert.Kernel5Ideal.Att

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

/-- The gains, as one row. -/
def GG (G : FVec Ideal S1024 .f32) : FVec Ideal S1x1024 .f32 := shapeCast _ G shapeCasts_S1024_S1x1024
/-- The weights of the projection. -/
def WS (W : FVec Ideal S1024x8096 .f32) : FVec Ideal S1024x1536 .bf16 :=
  truncf .bf16 (extractStridedSlice S1024x1536 ![0, 768] W slices_S1024x8096_S1024x1536_0_768) bitsLt_bf16_f32
/-- The biases, as one row. -/
def BB (B : FVec Ideal S512 .f32) : FVec Ideal S1x512 .f32 := shapeCast _ B shapeCasts_S512_S1x512

/-- The gains the call is given. -/
theorem V_g (c : Dev nD) : V m c main_v1 = GG (m ((c : Thread nD τ).loc main_arg1)) := by
  entry_read
  rfl

/-- The weights the call is given. -/
theorem V_w (c : Dev nD) : V m c main_v2 = WS (m ((c : Thread nD τ).loc main_arg2)) := by
  entry_read
  rfl

/-- The biases the call is given. -/
theorem V_b (c : Dev nD) : V m c main_v3 = BB (m ((c : Thread nD τ).loc main_arg4)) := by
  entry_read
  rfl

/-- An entry of the gains. -/
theorem GG_at (G : FVec Ideal S1024 .f32) (z : Fin 1) (k : Fin 1024) : GG G (ix2 z k) = G (ix1 k) := by
  pointwise [GG]

/-- An entry of the weights. -/
theorem WS_at (W : FVec Ideal S1024x8096 .f32) (k : Fin 1024) (f : Fin 1536) : WS W (ix2 k f) = W (ix2 k ⟨768 + f.val, by omega⟩) := by
  pointwise [WS]

/-- An entry of the biases. -/
theorem BB_at (B : FVec Ideal S512 .f32) (z : Fin 1) (e : Fin 512) : BB B (ix2 z e) = B (ix1 e) := by
  pointwise [BB]

/-- Which block each moving window is at, at every grid point. -/
theorem idx : ∀ t : Fin cfg0.N, win0_0.index t = ![t.val / 32, t.val % 32, 0] ∧ win0_1.index t = ![t.val / 32, 64 * (t.val % 32) - 1, 0]
    ∧ win0_2.index t = ![t.val / 32, min (64 * (t.val % 32) + 64) 2047, 0] ∧ win0_7.index t = ![t.val / 32, t.val % 32, 0] ∧ t.val < 64 :=
  (by decide +kernel : ∀ t : Fin grid0.N, _)

/-- The windows of the gains, weights and biases stay at their one block. -/
theorem idx' : ∀ t : Fin cfg0.N, win0_3.index t = ![0, 0] ∧ win0_4.index t = ![0, 0] ∧ win0_5.index t = ![0, 0] ∧ win0_6.index t = ![0, 0] :=
  (by decide +kernel : ∀ t : Fin grid0.N, _)

/-- The second coordinate of a grid point. -/
theorem coord : ∀ t : Fin cfg0.N, (grid0.coords t 1).val = t.val % 32 :=
  (by decide +kernel : ∀ t : Fin grid0.N, _)

/-- The number of grid points. -/
theorem tlt (t : Fin cfg0.N) : t.val < 64 := (idx t).2.2.2.2

/-- The batch entry of a grid point. -/
def bt (t : Fin cfg0.N) : Fin 2 := ⟨t.val / 32, by have := tlt t; omega⟩

/-- The array row of a row of a grid point's block. -/
def st (t : Fin cfg0.N) (r : Fin 512) : Fin 16384 := ⟨512 * (t.val % 32) + r.val, by omega⟩

/-- The array row of a row before a grid point's block. -/
def sp (t : Fin cfg0.N) (r : Fin 8) : Fin 16384 := ⟨8 * (64 * (t.val % 32) - 1) + r.val, by omega⟩

/-- The array row of a row behind a grid point's block. -/
def sn (t : Fin cfg0.N) (r : Fin 8) : Fin 16384 := ⟨8 * min (64 * (t.val % 32) + 64) 2047 + r.val, by omega⟩

/-- An entry of the block of rows of a grid point. -/
theorem iblk_x (c : Dev nD) (t : Fin cfg0.N) (r : Fin 512) (k : Fin 1024) : (iblk m c 0 t : FVec Ideal S1x512x1024 .f32) (ix3 0 r k)
    = m ((c : Thread nD τ).loc main_arg0) (ix3 (bt t) (st t r) k) := by
  rw [← V_main_arg0 m c]
  blk_ext [iblk, idx t, bt, st]

/-- An entry of the rows before the block of a grid point. -/
theorem iblk_p (c : Dev nD) (t : Fin cfg0.N) (r : Fin 8) (k : Fin 1024) : (iblk m c 1 t : FVec Ideal S1x8x1024 .f32) (ix3 0 r k)
    = m ((c : Thread nD τ).loc main_arg0) (ix3 (bt t) (sp t r) k) := by
  rw [← V_main_arg0 m c]
  blk_ext [iblk, idx t, bt, sp]

/-- An entry of the rows behind the block of a grid point. -/
theorem iblk_n (c : Dev nD) (t : Fin cfg0.N) (r : Fin 8) (k : Fin 1024) : (iblk m c 2 t : FVec Ideal S1x8x1024 .f32) (ix3 0 r k)
    = m ((c : Thread nD τ).loc main_arg0) (ix3 (bt t) (sn t r) k) := by
  rw [← V_main_arg0 m c]
  blk_ext [iblk, idx t, bt, sn]

/-- An entry of the gains at a grid point. -/
theorem iblk_g (c : Dev nD) (t : Fin cfg0.N) (z : Fin 1) (k : Fin 1024) : (iblk m c 3 t : FVec Ideal S1x1024 .f32) (ix2 z k)
    = GG (m ((c : Thread nD τ).loc main_arg1)) (ix2 z k) := by
  rw [← V_g]
  blk_ext [iblk, idx' t]

/-- An entry of the weights at a grid point. -/
theorem iblk_w (c : Dev nD) (t : Fin cfg0.N) (k : Fin 1024) (f : Fin 1536) : (iblk m c 4 t : FVec Ideal S1024x1536 .bf16) (ix2 k f)
    = WS (m ((c : Thread nD τ).loc main_arg2)) (ix2 k f) := by
  rw [← V_w]
  blk_ext [iblk, idx' t]

/-- An entry of the taps at a grid point. -/
theorem iblk_t (c : Dev nD) (t : Fin cfg0.N) (a : Fin 3) (e : Fin 512) : (iblk m c 5 t : FVec Ideal S3x512 .f32) (ix2 a e)
    = m ((c : Thread nD τ).loc main_arg3) (ix2 a e) := by
  rw [← V_main_arg3 m c]
  blk_ext [iblk, idx' t]

/-- An entry of the biases at a grid point. -/
theorem iblk_b (c : Dev nD) (t : Fin cfg0.N) (z : Fin 1) (e : Fin 512) : (iblk m c 6 t : FVec Ideal S1x512 .f32) (ix2 z e)
    = BB (m ((c : Thread nD τ).loc main_arg4)) (ix2 z e) := by
  rw [← V_b]
  blk_ext [iblk, idx' t]

/-- The reference's columns of the short convolution, of the arguments in a memory. -/
abbrev SU (c : Dev nD) : FVec Ideal Cert.Reference5Ideal.S2x16384x1536 .f32 :=
  Cert.Reference5Ideal.Att.SU (m ((c : Thread nD τ).loc main_arg0)) (m ((c : Thread nD τ).loc main_arg1)) (m ((c : Thread nD τ).loc main_arg2))

/-- The reference's result, of the arguments in a memory. -/
def result (c : Dev nD) : FVec Ideal S2x16384x512 .bf16 :=
  Cert.Reference5Ideal.Att.REF (m ((c : Thread nD τ).loc main_arg0)) (m ((c : Thread nD τ).loc main_arg1)) (m ((c : Thread nD τ).loc main_arg2))
    (m ((c : Thread nD τ).loc main_arg3)) (m ((c : Thread nD τ).loc main_arg4))

/-- A row between its neighbours' rows is a row of the array. -/
theorem rows_eq (c : Dev nD) (t : Fin cfg0.N) (q : Fin 528) (s : Fin 16384) (hq : 512 * (t.val % 32) + q.val = s.val + 8) (h7 : 7 ≤ q.val) (h520 : q.val ≤ 520) :
    rows (iblk m c 0 t) (iblk m c 1 t) (iblk m c 2 t) q = fun k => m ((c : Thread nD τ).loc main_arg0) (ix3 (bt t) s k) := by
  have hs := s.isLt
  funext k
  unfold rows
  by_cases h : q.val < 8
  · rw [dif_pos h, iblk_p]
    exact congrArg (fun z => m ((c : Thread nD τ).loc main_arg0) (ix3 (bt t) z k)) (Fin.ext (by simp only [sp]; omega))
  · rw [dif_neg h]
    by_cases h' : q.val < 520
    · rw [dif_pos h', iblk_x]
      exact congrArg (fun z => m ((c : Thread nD τ).loc main_arg0) (ix3 (bt t) z k)) (Fin.ext (by simp only [st]; omega))
    · rw [dif_neg h', iblk_n]
      exact congrArg (fun z => m ((c : Thread nD τ).loc main_arg0) (ix3 (bt t) z k)) (Fin.ext (by simp only [sn]; omega))

/-- Equal rows, gains and weights give equal projections. -/
theorem proj_congr {x x' g g' u u' : Fin 1024 → EReal} (hx : x = x') (hg : g = g') (hu : u = u') : Cert.Conv.proj x g u = Cert.Conv.proj x' g' u' := by
  rw [hx, hg, hu]

/-- A projected row is a row of the reference's columns. -/
theorem u_eq (c : Dev nD) (t : Fin cfg0.N) (q : Fin 528) (s : Fin 16384) (hq : 512 * (t.val % 32) + q.val = s.val + 8) (h7 : 7 ≤ q.val) (h520 : q.val ≤ 520)
    (f : Fin 1536) : k0_pay3 (F := Ideal) (iblk m c 1 t) (iblk m c 0 t) (iblk m c 2 t) (iblk m c 3 t) (iblk m c 4 t) (ix2 q f) = SU m c (ix3 (bt t) s f) := by
  refine (pay3_at _ _ _ _ _ q f).trans (Eq.trans ?_ ((Cert.Reference5Ideal.Att.SU_at _ _ _ _ _ _).trans (Cert.Reference5Ideal.Att.PR_at _ _ _ _ _ _)).symm)
  exact proj_congr (rows_eq m c t q s hq h7 h520) (funext fun k => (iblk_g m c t 0 k).trans (GG_at _ 0 k)) (funext fun k => (iblk_w m c t k f).trans (WS_at _ k f))

/-- A kept product is an entry of the reference's gated values between two rows of zeros. -/
theorem kept_eq (c : Dev nD) (t : Fin cfg0.N) (q : Fin 528) (j : Fin 16386) (hq : 512 * (t.val % 32) + q.val = j.val + 7) (h7 : 7 ≤ q.val) (h520 : q.val ≤ 520)
    (e : Fin 512) : kept (iblk m c 0 t) (iblk m c 1 t) (iblk m c 2 t) (iblk m c 3 t) (iblk m c 4 t) (grid0.coords t) (ix2 q e)
      = Cert.Reference5Ideal.Att.PD (m ((c : Thread nD τ).loc main_arg0)) (m ((c : Thread nD τ).loc main_arg1)) (m ((c : Thread nD τ).loc main_arg2)) (ix3 (bt t) j e) := by
  have hj := j.isLt
  rw [Cert.Reference5Ideal.Att.PD_at]
  refine (kept_at _ _ _ _ _ _ ⟨t.val % 32, by omega⟩ (coord t) q e).trans ?_
  rw [keep_eq]
  unfold Cert.Conv.padded
  by_cases h : 1 ≤ j.val ∧ j.val < 16385
  · rw [dif_pos h, if_neg (by show ¬((t.val % 32 = 0 ∧ q.val < 8) ∨ (t.val % 32 = 31 ∧ 520 ≤ q.val)); omega)]
    refine Eq.trans (congrArg₂ (· * ·) (pay4_at _ _ _ _ _ q e) (show FloatOps.sitofp (F := Ideal) .f32 1#32 = (1 : EReal) from ?_))
      (Eq.trans ((mul_one _).trans (congrArg₂ (· * ·) ?_ ?_)) (Cert.Reference5Ideal.Att.ZZ_at _ _ _ _ ⟨j.val - 1, by omega⟩ _).symm)
    · show (((1#32 : BitVec 32).toInt : ℝ) : EReal) = 1
      simp
    · exact u_eq m c t q ⟨j.val - 1, by omega⟩ (by show _ = j.val - 1 + 8; omega) h7 h520 _
    · exact u_eq m c t q ⟨j.val - 1, by omega⟩ (by show _ = j.val - 1 + 8; omega) h7 h520 _
  · rw [dif_neg h, if_pos (by show (t.val % 32 = 0 ∧ q.val < 8) ∨ (t.val % 32 = 31 ∧ 520 ≤ q.val); omega)]
    refine Eq.trans (congrArg (_ * ·) (show FloatOps.sitofp (F := Ideal) .f32 0#32 = (0 : EReal) from ?_)) (mul_zero _)
    show (((0#32 : BitVec 32).toInt : ℝ) : EReal) = 0
    simp

/-- Equal entries give equal gated taps. -/
theorem row_congr {a a' b b' w0 w0' w1 w1' w2 w2' z0 z0' z1 z1' z2 z2' : EReal} (ha : a = a') (hb : b = b') (h0 : w0 = w0') (h1 : w1 = w1') (h2 : w2 = w2')
    (k0 : z0 = z0') (k1 : z1 = z1') (k2 : z2 = z2') : Cert.Conv.row a b w0 w1 w2 z0 z1 z2 = Cert.Conv.row a' b' w0' w1' w2' z0' z1' z2' := by
  rw [ha, hb, h0, h1, h2, k0, k1, k2]

/-- What a grid point stores at an index of its block is the reference's result at the array index it is placed at. -/
theorem point (c : Dev nD) (t : Fin cfg0.N) (z : Fin 1) (r e : Fin 512) :
    stored (iblk m c 0 t) (iblk m c 1 t) (iblk m c 2 t) (iblk m c 3 t) (iblk m c 4 t) (iblk m c 5 t) (iblk m c 6 t) (grid0.coords t) (ix3 z r e)
      = result m c (ix3 (bt t) (st t r) e) := by
  obtain rfl : z = 0 := Subsingleton.elim _ _
  have hr := r.isLt
  refine (pay2_at _ _ _ _ _ _ r e).trans (Eq.trans ?_ (Cert.Reference5Ideal.Att.REF_at _ _ _ _ _ _ _ _).symm)
  have hu := u_eq m c t ⟨8 + r.val, by omega⟩ (st t r) (by show 512 * (t.val % 32) + (8 + r.val) = 512 * (t.val % 32) + r.val + 8; omega)
    (by show 7 ≤ 8 + r.val; omega) (by show 8 + r.val ≤ 520; omega) ⟨e.val, by omega⟩
  have h0 := kept_eq m c t ⟨7 + r.val, by omega⟩ ⟨(st t r).val, by omega⟩ (by show 512 * (t.val % 32) + (7 + r.val) = 512 * (t.val % 32) + r.val + 7; omega)
    (by show 7 ≤ 7 + r.val; omega) (by show 7 + r.val ≤ 520; omega) e
  have h1 := kept_eq m c t ⟨8 + r.val, by omega⟩ ⟨1 + (st t r).val, by omega⟩ (by show 512 * (t.val % 32) + (8 + r.val) = 1 + (512 * (t.val % 32) + r.val) + 7; omega)
    (by show 7 ≤ 8 + r.val; omega) (by show 8 + r.val ≤ 520; omega) e
  have h2 := kept_eq m c t ⟨9 + r.val, by omega⟩ ⟨2 + (st t r).val, by omega⟩ (by show 512 * (t.val % 32) + (9 + r.val) = 2 + (512 * (t.val % 32) + r.val) + 7; omega)
    (by show 7 ≤ 9 + r.val; omega) (by show 9 + r.val ≤ 520; omega) e
  exact row_congr hu ((iblk_b m c t 0 e).trans (BB_at _ 0 e)) (iblk_t m c t 0 e) (iblk_t m c t 1 e) (iblk_t m c t 2 e) h0 h1 h2

/-- The result array after the run is the reference's term of the arguments. -/
theorem final (c : Dev nD) : (dats m 0 c).arrAt 7 cfg0.N = result m c := by
  refine (dats m 0 c).arrAt_eq_of_covers 7 _ (by decide +kernel) fun t _ y => ?_
  blk_simp
  rw [after0_7]
  unfold outsAt0
  rw [run_eq]
  idx_vars y
  refine (point m c t _ _ _).trans ?_
  refine congrArg (result m c) ?_
  blk_ext [idx t, bt, st]

/-- The call's run: the result at the reference's term, the arguments as they were. -/
theorem run_value (ρ : Dev nD → PrngReg) :
    θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r e c => ⟨(e c).1.trans (final m c), (e c).2⟩) (Cert.Kernel5Ideal.Value.run_blocks m ρ)

end Cert.Kernel5Ideal.Att

end
-- ==== Proof.Pre.lean ====
module

public import proofs.«01_k».proof.Defs
public import Idealize.ShloMosaic.Lib.Pointwise

@[expose] public section

set_option maxRecDepth 16384

noncomputable section

/-! The precondition: every query and every key is a real number. -/

namespace Cert.Pre_finite_qk.Att

open Cert.Pre_finite_qk
open Idealize.ShloMosaic Idealize.ShloMosaic.TcCoe

/-- The side conditions of the precondition's operations. -/
theorem facts : Cert.Pre_finite_qk.Facts := ⟨by decide +kernel, by decide +kernel⟩

/-- An extended real of absolute value below plus infinity is a real. -/
theorem real_of_lt (x : EReal) (h : max x (-x) < ⊤) : ∃ r : ℝ, x = (r : EReal) := by
  refine ⟨x.toReal, (EReal.coe_toReal ?_ ?_).symm⟩
  · rintro rfl; exact absurd (lt_of_le_of_lt (le_max_left _ _) h) (lt_irrefl _)
  · rintro rfl; exact absurd (lt_of_le_of_lt (le_max_right _ _) h) (by simp)

/-- The word of plus infinity. -/
theorem ofBits_top : Ideal.ofBits .f32 0x7F800000#32 = ⊤ := by
  simp [Ideal.ofBits, Ideal.ieee]

/-- What is below infinity in absolute value is a real. -/
theorem real_of_cmp (x : EReal) (h : BitVec.ofBool (decide (FloatOps.absf (F := Ideal) (φ := .f32) x < Ideal.ofBits .f32 0x7F800000#32)) = 1#1) : ∃ r : ℝ, x = (r : EReal) := by
  refine real_of_lt x ?_
  rw [ofBits_top] at h
  by_contra hn
  exact absurd h (by rw [show decide (FloatOps.absf (F := Ideal) (φ := .f32) x < (⊤ : EReal)) = false from decide_eq_false hn]; decide)

variable (Q : FVec Ideal S2x8x16384x64 .f32) (K V : FVec Ideal S2x2x16384x64 .f32)

/-- The precondition makes each query a real. -/
theorem finite_q (h : @fn facts Ideal _ Q K V = fun _ => 1#1) (i : S2x8x16384x64.Idx) : ∃ r : ℝ, Q i = (r : EReal) := by
  idx_vars i
  have e := congrFun h (ix4 i0 ⟨i1.val, by omega⟩ i2 i3)
  pointwise [fn] at e
  exact real_of_cmp _ e

/-- The precondition makes each key a real. -/
theorem finite_k (h : @fn facts Ideal _ Q K V = fun _ => 1#1) (i : S2x2x16384x64.Idx) : ∃ r : ℝ, K i = (r : EReal) := by
  idx_vars i
  have e := congrFun h (ix4 i0 ⟨8 + i1.val, by omega⟩ i2 i3)
  pointwise [fn] at e
  exact real_of_cmp _ e

end Cert.Pre_finite_qk.Att

end
-- ==== Proof.Strip.lean ====
module

public import Idealize.ShloMosaic.Lib.VecWindow
public import Idealize.ShloMosaic.Lib.Tactic

@[expose] public section

set_option maxRecDepth 16384

noncomputable section

/-! A buffer of 2048 columns stored eight strips of 256 columns at a time, strip after strip and round after
round: what a strip reads after any number of such stores. -/

namespace Cert.Strip

open Idealize.ShloMosaic

/-- The strip the `n`-th store goes to. -/
def sc (n : ℕ) : Fin 8 := ⟨n % 8, Nat.mod_lt _ (by decide)⟩

/-- A buffer of `r` rows and 2048 columns, and one strip of it. -/
abbrev Buf (r : ℕ) : Shape := ⟨2, ![r, 2048]⟩
/-- The shape of a strip. -/
abbrev Str (r : ℕ) : Shape := ⟨2, ![r, 256]⟩

/-- A strip of 256 columns lies inside its buffer of 2048 columns. -/
theorem inb (r : ℕ) (c : Fin 8) : ∀ a : Fin 2, (![0, 256 * c.val] : Fin 2 → ℕ) a + (![r, 256] : Fin 2 → ℕ) a ≤ (![r, 2048] : Fin 2 → ℕ) a := by
  have := c.isLt
  intro a
  match a with
  | 0 => show 0 + r ≤ r; omega
  | 1 => show 256 * c.val + 256 ≤ 2048; omega

/-- Strip `c` as a rectangle of the buffer. -/
abbrev rect (r : ℕ) (c : Fin 8) : Rect (Buf r) := Rect.unit (s := Buf r) ![0, 256 * c.val] ![r, 256] (inb r c)

/-- Strip `c` of `x`. -/
abbrev win {α : Type} {r : ℕ} (c : Fin 8) (x : (Buf r).Idx → α) : (Str r).Idx → α :=
  VecWindow.window (s := Buf r) x ![0, 256 * c.val] ![r, 256] (inb r c)

/-- A strip just written reads as what was written. -/
theorem win_put_same {α : Type} {r : ℕ} (c : Fin 8) (x : (Buf r).Idx → α) (w : (Str r).Idx → α) :
    win c (VecWindow.put (s := Buf r) x ![0, 256 * c.val] ![r, 256] w) = w :=
  VecWindow.window_put_same (s := Buf r) x _ _ _ w

/-- Writing one strip leaves the other strips as they were. -/
theorem win_put_ne {α : Type} {r : ℕ} (c c' : Fin 8) (h : c ≠ c') (x : (Buf r).Idx → α) (w : (Str r).Idx → α) :
    win c (VecWindow.put (s := Buf r) x ![0, 256 * c'.val] ![r, 256] w) = win c x := by
  refine VecWindow.window_put_of_disjoint (s := Buf r) x _ _ _ _ _ w (1 : Fin 2) ?_
  have : c.val ≠ c'.val := fun e => h (Fin.ext e)
  show 256 * c.val + 256 ≤ 256 * c'.val ∨ 256 * c'.val + 256 ≤ 256 * c.val
  omega

variable {sig : RefSig} {κ : Kind} {sp : Space} {e : EltTy} {Val : EltTy → Type} {r : ℕ}

/-- The stores of the first `n` payloads, last first. -/
def pieces (w : ℕ → (Str r).Idx → Val e) : ℕ → List (View.Piece Val (Buf r) e)
  | 0 => []
  | n + 1 => ⟨rect r (sc n), w n⟩ :: pieces w n

/-- Reading a buffer after one more strip is written: that strip put into the earlier reading. -/
theorem read_cons (v : View sig κ sp (Buf r) e) (f : v.ty.Contents Val) (c : Fin 8) (w : (Str r).Idx → Val e)
    (L : List (View.Piece Val (Buf r) e)) :
    v.read Val (v.writes Val f (⟨rect r c, w⟩ :: L)) = VecWindow.put (s := Buf r) (v.read Val (v.writes Val f L)) ![0, 256 * c.val] ![r, 256] w :=
  View.read_writes_cons_put v f _ w L rfl

/-- A strip reads the last payload stored to it: at most seven stores, to the other strips, came after. -/
theorem win_hit (v : View sig κ sp (Buf r) e) (f : v.ty.Contents Val) (w : ℕ → (Str r).Idx → Val e) (n d : ℕ) (hd : d < 8) :
    win (sc n) (v.read Val (v.writes Val f (pieces w (n + 1 + d)))) = w n := by
  induction d with
  | zero => rw [show n + 1 + 0 = n + 1 from rfl, pieces, read_cons, win_put_same]
  | succ d ih =>
    rw [show n + 1 + (d + 1) = (n + 1 + d) + 1 from rfl, pieces, read_cons, win_put_ne, ih (by omega)]
    intro h
    have := congrArg Fin.val h
    simp only [sc] at this
    omega

/-- A strip no store has reached reads what it held. -/
theorem win_miss (v : View sig κ sp (Buf r) e) (f : v.ty.Contents Val) (w : ℕ → (Str r).Idx → Val e) (c : Fin 8) (n : ℕ) (hn : n ≤ c.val) :
    win c (v.read Val (v.writes Val f (pieces w n))) = win c (v.read Val f) := by
  induction n with
  | zero => rfl
  | succ n ih =>
    rw [pieces, read_cons, win_put_ne, ih (by omega)]
    intro h
    have := congrArg Fin.val h
    have := c.isLt
    simp only [sc] at *
    omega

/-- After whole rounds, every strip reads the payload of the last round. -/
theorem win_rounds (v : View sig κ sp (Buf r) e) (f : v.ty.Contents Val) (w : ℕ → (Str r).Idx → Val e) (c : Fin 8) (t : ℕ) :
    win c (v.read Val (v.writes Val f (pieces w (8 * (t + 1))))) = w (8 * t + c.val) := by
  have hc := c.isLt
  have := win_hit v f w (8 * t + c.val) (7 - c.val) (by omega)
  rw [show sc (8 * t + c.val) = c from Fin.ext (by simp only [sc]; omega), show 8 * t + c.val + 1 + (7 - c.val) = 8 * (t + 1) by omega] at this
  exact this

/-- The payloads of stores that each depend on what their strip held: `g n` of the strip's payload a round earlier, and in
    the first round of the strip's first contents `x`. -/
def carry {α : Type} {r : ℕ} (g : ℕ → ((Str r).Idx → α) → (Str r).Idx → α) (x : Fin 8 → (Str r).Idx → α) (n : ℕ) : (Str r).Idx → α :=
  if h : n < 8 then g n (x (sc n)) else g n (carry g x (n - 8))
termination_by n
decreasing_by omega

/-- The same stores over the stores `L` made before them, each payload stated over the list so far. -/
def carriedOn [∀ e, Nonempty (Val e)] (v : View sig κ sp (Buf r) e) (g : ℕ → ((Str r).Idx → Val e) → (Str r).Idx → Val e)
    (L : List (View.Piece Val (Buf r) e)) (n : ℕ) : List (View.Piece Val (Buf r) e) :=
  Nat.rec L (fun n M => ⟨rect r (sc n), g n (v.readCov M (rect r (sc n)).toLoadRect)⟩ :: M) n

/-- The same stores with nothing before them: the first round's payloads are stated over the first contents `x`. -/
def carried [∀ e, Nonempty (Val e)] (v : View sig κ sp (Buf r) e) (g : ℕ → ((Str r).Idx → Val e) → (Str r).Idx → Val e) (x : Fin 8 → (Str r).Idx → Val e)
    (n : ℕ) : List (View.Piece Val (Buf r) e) :=
  Nat.rec [] (fun n M => ⟨rect r (sc n), g n (bif Nat.blt n 8 then x (sc n) else v.readCov M (rect r (sc n)).toLoadRect)⟩ :: M) n

/-- Strips that each update their earlier contents are the list of the carried values. -/
theorem carried_eq [∀ e, Nonempty (Val e)] (v : View sig κ sp (Buf r) e) (g : ℕ → ((Str r).Idx → Val e) → (Str r).Idx → Val e) (x : Fin 8 → (Str r).Idx → Val e) (n : ℕ) :
    carried v g x n = pieces (carry g x) n := by
  induction n with
  | zero => rfl
  | succ n ih =>
    show ⟨rect r (sc n), g n (bif Nat.blt n 8 then x (sc n) else v.readCov (carried v g x n) (rect r (sc n)).toLoadRect)⟩ :: carried v g x n = _
    rw [pieces, ih, carry]
    by_cases h : n < 8
    · rw [dif_pos h, show Nat.blt n 8 = true from Nat.ble_eq_true_of_le h]; rfl
    · rw [dif_neg h, show Nat.blt n 8 = false from Bool.eq_false_iff.mpr fun e => h (Nat.le_of_ble_eq_true e)]
      have := win_hit v v.junk (carry g x) (n - 8) 7 (by omega)
      rw [show n - 8 + 1 + 7 = n by omega, show sc (n - 8) = sc n from Fin.ext (by simp only [sc]; omega)] at this
      rw [← this]; rfl

/-- The same on top of a buffer already written. -/
theorem carriedOn_eq [∀ e, Nonempty (Val e)] (v : View sig κ sp (Buf r) e) (g : ℕ → ((Str r).Idx → Val e) → (Str r).Idx → Val e) (L : List (View.Piece Val (Buf r) e)) (n : ℕ) :
    carriedOn v g L n = pieces (carry g (fun c => win c (v.read Val (v.writes Val v.junk L)))) n ++ L := by
  induction n with
  | zero => rfl
  | succ n ih =>
    show ⟨rect r (sc n), g n (v.readCov (carriedOn v g L n) (rect r (sc n)).toLoadRect)⟩ :: carriedOn v g L n = _
    rw [pieces, ih, carry, List.cons_append]
    have hr : ∀ M, v.readCov M (rect r (sc n)).toLoadRect = win (sc n) (v.read Val (v.writes Val v.junk M)) := fun M => rfl
    rw [hr, View.writes_append]
    by_cases h : n < 8
    · rw [dif_pos h, win_miss v _ _ _ n (by simp only [sc]; omega)]
    · rw [dif_neg h]
      have := win_hit v (v.writes Val v.junk L) (carry g (fun c => win c (v.read Val (v.writes Val v.junk L)))) (n - 8) 7 (by omega)
      rw [show n - 8 + 1 + 7 = n by omega, show sc (n - 8) = sc n from Fin.ext (by simp only [sc]; omega)] at this
      rw [this]

/-- The carried value of a strip after one round. -/
theorem carry_zero {α : Type} {r : ℕ} (g : ℕ → ((Str r).Idx → α) → (Str r).Idx → α) (x : Fin 8 → (Str r).Idx → α) (c : Fin 8) :
    carry g x c.val = g c.val (x c) := by
  rw [carry, dif_pos c.isLt, show sc c.val = c from Fin.ext (Nat.mod_eq_of_lt c.isLt)]

/-- The carried value of a strip after one more round. -/
theorem carry_succ {α : Type} {r : ℕ} (g : ℕ → ((Str r).Idx → α) → (Str r).Idx → α) (x : Fin 8 → (Str r).Idx → α) (c : Fin 8) (t : ℕ) :
    carry g x (8 * (t + 1) + c.val) = g (8 * (t + 1) + c.val) (carry g x (8 * t + c.val)) := by
  rw [carry, dif_neg (by omega), show 8 * (t + 1) + c.val - 8 = 8 * t + c.val by omega]

/-- The buffer whose strips are `S`. -/
def glue {α : Type} {r : ℕ} (S : Fin 8 → (Str r).Idx → α) : (Buf r).Idx → α := fun y =>
  S ⟨(y (1 : Fin 2)).val / 256, by have : (y (1 : Fin 2)).val < 2048 := (y (1 : Fin 2)).isLt; omega⟩
    (fun | 0 => y (0 : Fin 2) | 1 => ⟨(y (1 : Fin 2)).val % 256, Nat.mod_lt _ (by decide)⟩)

/-- A buffer is the gluing of its eight strips. -/
theorem eq_glue {α : Type} {r : ℕ} (x : (Buf r).Idx → α) (S : Fin 8 → (Str r).Idx → α) (h : ∀ c, win c x = S c) : x = glue S := by
  funext y
  unfold glue
  rw [← h]
  refine congrArg x (funext fun a => ?_)
  match a with
  | 0 => exact Fin.ext (show (y (0 : Fin 2)).val = 0 + 1 * (y (0 : Fin 2)).val by omega)
  | 1 => exact Fin.ext (show (y (1 : Fin 2)).val = 256 * ((y (1 : Fin 2)).val / 256) + 1 * ((y (1 : Fin 2)).val % 256) by omega)

end Cert.Strip

end
-- ==== Proof.Trip.lean ====
module

public import proofs.«01_k».proof.Proof.Gen.KernelIdeal.Loops
public import proofs.«01_k».proof.Proof.Strip

@[expose] public section

set_option maxRecDepth 16384

noncomputable section

/-! One trip of the body's loop: eight blocks of 512 keys, each taken strip by strip. -/

namespace Cert.KernelIdeal.Att

open Cert.KernelIdeal.Gen Cert.Strip
open Idealize.ShloMosaic Idealize.ShloMosaic.TcCoe

variable {F : FTy → Type} [FloatOps F] [Named F]

/-- A strip of queries lies inside the block of queries. -/
theorem inb_q (c : Fin 8) : ∀ a : Fin 4, (![0, 0, 0, 256 * c.val] : Fin 4 → ℕ) a + S1x1x128x256.size a ≤ S1x1x128x2048.size a := by
  revert c; decide +kernel

section
variable (arg3 : Memref sig .tc .vmem S1x1x128x2048 .bf16) (arg4 : Memref sig .tc .vmem S1x1x32x512x128 .bf16)
  (arg5 : Memref sig .tc .vmem S1x1x32x64x512 .bf16)
  (X3 : BufTy.Contents (Elt F) arg3.view.ty) (X4 : BufTy.Contents (Elt F) arg4.view.ty) (X5 : BufTy.Contents (Elt F) arg5.view.ty)

/-- The queries of strip `c`, as the body reads them. -/
abbrev qRd (c : Fin 8) : Vec F S1x1x128x256 .bf16 :=
  View.readAt (Elt F) arg3.view (Rect.unit (s := S1x1x128x2048) ![0, 0, 0, 256 * c.val] S1x1x128x256.size (inb_q c)).toLoadRect X3

/-- The keys trip `k` reads at its block `u`, one block ahead of the values. -/
abbrev kRd (k : Fin k0_t1_loop.trips) (u : Fin 8) : Vec F S1x1x1x512x128 .bf16 :=
  View.readAt (Elt F) arg4.view (Rect.unit (s := S1x1x32x512x128) (k0_off1 k (BitVec.ofNat 32 u.val)) S1x1x1x512x128.size (k0_off1_inb k u)).toLoadRect X4

/-- The values trip `k` reads at its block `u`. -/
abbrev vRd (k : Fin k0_t1_loop.trips) (u : Fin 8) : Vec F S1x1x1x64x512 .bf16 :=
  View.readAt (Elt F) arg5.view (Rect.unit (s := S1x1x32x64x512) (k0_off2 k (BitVec.ofNat 32 u.val)) S1x1x1x64x512.size (k0_off2_inb k u)).toLoadRect X5

/-- The weights trip `k` stores: of its even blocks to one buffer, of its odd blocks to the other. -/
abbrev pEven (k : Fin k0_t1_loop.trips) (n : ℕ) : FVec F S512x256 .bf16 := k0_pay6 (kRd arg4 X4 k (sc (2 * (n / 8)))) (qRd arg3 X3 (sc n))
/-- The weights of the odd blocks of a trip. -/
abbrev pOdd (k : Fin k0_t1_loop.trips) (n : ℕ) : FVec F S512x256 .bf16 := k0_pay6 (kRd arg4 X4 k (sc (2 * (n / 8) + 1))) (qRd arg3 X3 (sc n))

/-- The weights the `n`-th update of the accumulator reads: the block's that was stored a block earlier. -/
abbrev pRd (arg7 arg8 : Memref sig .tc .vmem S512x2048 .bf16) (f7 : BufTy.Contents (Elt F) arg7.view.ty) (k : Fin k0_t1_loop.trips) (n : ℕ) : FVec F S512x256 .bf16 :=
  bif Nat.blt n 8 then View.readAt (Elt F) arg7.view (rect 512 (sc n)).toLoadRect f7
  else bif Nat.beq (n / 8 % 2) 1 then arg8.view.readCov (pieces (Val := Elt F) (e := .bf16) (r := 512) (pEven arg3 arg4 X3 X4 k) (8 * ((n / 8 + 1) / 2))) (rect 512 (sc n)).toLoadRect
  else arg7.view.readCov (pieces (Val := Elt F) (e := .bf16) (r := 512) (pOdd arg3 arg4 X3 X4 k) (8 * (n / 8 / 2))) (rect 512 (sc n)).toLoadRect

end

section
variable (𝒱 : Variants) (c : Dev nD) (bd : Option 𝒱.V) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole) (v142 : FVec F S512x128 .bf16)
  (X3 : BufTy.Contents (Elt F) arg3.view.ty) (X4 : BufTy.Contents (Elt F) arg4.view.ty) (X5 : BufTy.Contents (Elt F) arg5.view.ty)
  (k : Fin k0_t1_loop.trips)
  (f7 : BufTy.Contents (Elt F) arg7.view.ty) (f8 : BufTy.Contents (Elt F) arg8.view.ty) (f9 : BufTy.Contents (Elt F) arg9.view.ty) (f10 : BufTy.Contents (Elt F) arg10.view.ty)

/-- What a trip writes to the first buffer of weights. -/
theorem trip_p0 : (trip_k0_t1 (F := F) 𝒱 c bd i arg3 harg3 arg4 harg4 arg5 harg5 arg6 harg6 arg7 harg7 arg8 harg8 arg9 harg9 arg10 harg10 v142 X3 X4 X5 k).1 f7 f8 f9 f10
    = pieces (Val := Elt F) (e := .bf16) (r := 512) (pOdd arg3 arg4 X3 X4 k) 32 := by sl_kernel_rfl

/-- What a trip writes to the second buffer of weights. -/
theorem trip_p1 : (trip_k0_t1 (F := F) 𝒱 c bd i arg3 harg3 arg4 harg4 arg5 harg5 arg6 harg6 arg7 harg7 arg8 harg8 arg9 harg9 arg10 harg10 v142 X3 X4 X5 k).2.1 f7 f8 f9 f10
    = pieces (Val := Elt F) (e := .bf16) (r := 512) (pEven arg3 arg4 X3 X4 k) 32 := by sl_kernel_rfl

/-- What a trip writes to the row sums. -/
theorem trip_l : (trip_k0_t1 (F := F) 𝒱 c bd i arg3 harg3 arg4 harg4 arg5 harg5 arg6 harg6 arg7 harg7 arg8 harg8 arg9 harg9 arg10 harg10 v142 X3 X4 X5 k).2.2.1 f7 f8 f9 f10
    = carried (Val := Elt F) (e := .f32) (r := 8) arg9.view (fun n l => k0_pay5 (kRd arg4 X4 k (sc (n / 8))) (qRd arg3 X3 (sc n)) l)
        (fun s => View.readAt (Elt F) arg9.view (rect 8 s).toLoadRect f9) 64 := by sl_kernel_rfl

/-- What a trip writes to the accumulator. -/
theorem trip_acc : (trip_k0_t1 (F := F) 𝒱 c bd i arg3 harg3 arg4 harg4 arg5 harg5 arg6 harg6 arg7 harg7 arg8 harg8 arg9 harg9 arg10 harg10 v142 X3 X4 X5 k).2.2.2.1 f7 f8 f9 f10
    = carried (Val := Elt F) (e := .f32) (r := 64) arg10.view (fun n a => k0_pay2 a (vRd arg5 X5 k (sc (n / 8))) (pRd arg3 arg4 X3 X4 arg7 arg8 f7 k n))
        (fun s => View.readAt (Elt F) arg10.view (rect 64 s).toLoadRect f10) 64 := by sl_kernel_rfl

end

end Cert.KernelIdeal.Att

end
-- ==== Proof.State.lean ====
module

public import proofs.«01_k».proof.Proof.Trip

@[expose] public section

set_option maxRecDepth 16384

noncomputable section

/-! The state the body builds, block of keys by block of keys, as a function of the input blocks; and the loop keeping it. -/

namespace Cert.KernelIdeal.Att

open Cert.KernelIdeal.Gen Cert.Strip
open Idealize.ShloMosaic Idealize.ShloMosaic.TcCoe

variable {F : FTy → Type} [FloatOps F] [Named F]

/-- A block of keys lies inside the array of keys. -/
theorem inb_k (j : Fin 32) : ∀ a : Fin 5, (![0, 0, j.val, 0, 0] : Fin 5 → ℕ) a + S1x1x1x512x128.size a ≤ S1x1x32x512x128.size a := by
  revert j; decide +kernel

/-- A block of values lies inside the array of values. -/
theorem inb_v (j : Fin 32) : ∀ a : Fin 5, (![0, 0, j.val, 0, 0] : Fin 5 → ℕ) a + S1x1x1x64x512.size a ≤ S1x1x32x64x512.size a := by
  revert j; decide +kernel

/-- The `j`-th block of keys or values. -/
def blk (j : ℕ) : Fin 32 := ⟨j % 32, Nat.mod_lt _ (by decide)⟩

section
variable (x0 : Vec F S1x1x128x2048 .bf16) (x1 : Vec F S1x1x32x512x128 .bf16) (x2 : Vec F S1x1x32x64x512 .bf16)

/-- A strip of queries. -/
def qB (c : Fin 8) : Vec F S1x1x128x256 .bf16 := VecWindow.window (s := S1x1x128x2048) x0 ![0, 0, 0, 256 * c.val] S1x1x128x256.size (inb_q c)
/-- A block of keys. -/
def kF (j : Fin 32) : Vec F S1x1x1x512x128 .bf16 := VecWindow.window (s := S1x1x32x512x128) x1 ![0, 0, j.val, 0, 0] S1x1x1x512x128.size (inb_k j)
/-- A block of values. -/
def vF (j : Fin 32) : Vec F S1x1x1x64x512 .bf16 := VecWindow.window (s := S1x1x32x64x512) x2 ![0, 0, j.val, 0, 0] S1x1x1x64x512.size (inb_v j)
/-- A block of keys, counted modulo 32. -/
def kB (j : ℕ) : Vec F S1x1x1x512x128 .bf16 := kF x1 (blk j)
/-- A block of values, counted modulo 32. -/
def vB (j : ℕ) : Vec F S1x1x1x64x512 .bf16 := vF x2 (blk j)

/-- The weights of block `j` for the queries of strip `c`. -/
def pS (c : Fin 8) (j : ℕ) : FVec F S512x256 .bf16 := k0_pay6 (kB x1 j) (qB x0 c)

/-- Strip `c` of the weights' sums, over the first `j` blocks. -/
def lS (c : Fin 8) : ℕ → FVec F S8x256 .f32
  | 0 => win (r := 8) c k0_pay302
  | j + 1 => k0_pay5 (kB x1 j) (qB x0 c) (lS c j)

/-- Strip `c` of the weighted sums of the values, over the first `j` blocks. -/
def aS (c : Fin 8) : ℕ → FVec F S64x256 .f32
  | 0 => win (r := 64) c k0_pay303
  | j + 1 => k0_pay2 (aS c j) (vB x2 j) (pS x0 x1 c j)
end

/-- Where a trip reads its keys: one block ahead. -/
theorem off1_eq : ∀ (k : Fin k0_t1_loop.trips) (u : Fin 8), k0_off1 k (BitVec.ofNat 32 u.val) = ![0, 0, (blk (8 * k.val + u.val + 1)).val, 0, 0] := by
  decide +kernel

/-- Where a trip reads its values. -/
theorem off2_eq : ∀ (k : Fin k0_t1_loop.trips) (u : Fin 8), k0_off2 k (BitVec.ofNat 32 u.val) = ![0, 0, (blk (8 * k.val + u.val)).val, 0, 0] := by
  decide +kernel

section
variable (arg3 : Memref sig .tc .vmem S1x1x128x2048 .bf16) (harg3 : arg3.IsWhole) (arg4 : Memref sig .tc .vmem S1x1x32x512x128 .bf16) (harg4 : arg4.IsWhole)
  (arg5 : Memref sig .tc .vmem S1x1x32x64x512 .bf16) (harg5 : arg5.IsWhole)
  (x0 : Vec F S1x1x128x2048 .bf16) (x1 : Vec F S1x1x32x512x128 .bf16) (x2 : Vec F S1x1x32x64x512 .bf16)

/-- What a trip reads as queries. -/
theorem qRd_eq (c : Fin 8) : qRd (F := F) arg3 (harg3.unread x0) c = qB x0 c := by
  unfold qRd qB
  rw [View.readAt_unit arg3.view _ _ rfl (inb_q c), harg3.read_unread]

/-- What a trip reads as keys. -/
theorem kRd_eq (k : Fin k0_t1_loop.trips) (u : Fin 8) : kRd (F := F) arg4 (harg4.unread x1) k u = kB x1 (8 * k.val + u.val + 1) := by
  unfold kRd kB kF
  rw [View.readAt_unit arg4.view _ _ (off1_eq k u) (inb_k _), harg4.read_unread]

/-- What a trip reads as values. -/
theorem vRd_eq (k : Fin k0_t1_loop.trips) (u : Fin 8) : vRd (F := F) arg5 (harg5.unread x2) k u = vB x2 (8 * k.val + u.val) := by
  unfold vRd vB vF
  rw [View.readAt_unit arg5.view _ _ (off2_eq k u) (inb_v _), harg5.read_unread]

/-- The strip of a store counted in rounds of eight. -/
theorem sc_add (t : ℕ) (c : Fin 8) : sc (8 * t + c.val) = c := Fin.ext (by have := c.isLt; simp only [sc]; omega)
/-- The round of a store counted in rounds of eight. -/
theorem div_add (t : ℕ) (c : Fin 8) : (8 * t + c.val) / 8 = t := by have := c.isLt; omega

/-- The weights of the even blocks of a trip. -/
theorem pEven_eq (k : Fin k0_t1_loop.trips) (t : ℕ) (ht : t < 4) (c : Fin 8) :
    pEven (F := F) arg3 arg4 (harg3.unread x0) (harg4.unread x1) k (8 * t + c.val) = pS x0 x1 c (8 * k.val + 2 * t + 1) := by
  unfold pEven pS
  rw [qRd_eq, kRd_eq, sc_add, div_add, show 8 * k.val + (sc (2 * t)).val + 1 = 8 * k.val + 2 * t + 1 by simp only [sc]; omega]

/-- The weights of the odd blocks of a trip. -/
theorem pOdd_eq (k : Fin k0_t1_loop.trips) (t : ℕ) (ht : t < 4) (c : Fin 8) :
    pOdd (F := F) arg3 arg4 (harg3.unread x0) (harg4.unread x1) k (8 * t + c.val) = pS x0 x1 c (8 * k.val + 2 * t + 2) := by
  unfold pOdd pS
  rw [qRd_eq, kRd_eq, sc_add, div_add, show 8 * k.val + (sc (2 * t + 1)).val + 1 = 8 * k.val + 2 * t + 2 by simp only [sc]; omega]

/-- The weights an update reads are those of the block whose values it reads. -/
theorem pRd_eq (arg7 arg8 : Memref sig .tc .vmem S512x2048 .bf16) (f7 : BufTy.Contents (Elt F) arg7.view.ty) (k : Fin k0_t1_loop.trips)
    (h7 : ∀ c, win (r := 512) c (arg7.view.read (Elt F) f7) = pS x0 x1 c (8 * k.val)) (t : ℕ) (ht : t < 8) (c : Fin 8) :
    pRd (F := F) arg3 arg4 (harg3.unread x0) (harg4.unread x1) arg7 arg8 f7 k (8 * t + c.val) = pS x0 x1 c (8 * k.val + t) := by
  have hc := c.isLt
  unfold pRd
  rw [sc_add, div_add]
  by_cases h0 : t = 0
  · subst h0
    rw [show Nat.blt (8 * 0 + c.val) 8 = true from Nat.ble_eq_true_of_le (by omega)]
    exact h7 c
  · rw [show Nat.blt (8 * t + c.val) 8 = false from Bool.eq_false_iff.mpr fun e => absurd (Nat.le_of_ble_eq_true e) (by omega)]
    by_cases h1 : t % 2 = 1
    · rw [show Nat.beq (t % 2) 1 = true by rw [h1]; rfl]
      obtain ⟨s, rfl⟩ : ∃ s, t = 2 * s + 1 := ⟨t / 2, by omega⟩
      have := win_rounds (Val := Elt F) (e := .bf16) (r := 512) arg8.view arg8.view.junk (pEven (F := F) arg3 arg4 (harg3.unread x0) (harg4.unread x1) k) c s
      rw [pEven_eq _ _ _ _ _ _ _ _ (by omega)] at this
      rw [show (2 * s + 1 + 1) / 2 = s + 1 by omega]
      exact this
    · rw [show Nat.beq (t % 2) 1 = false from Bool.eq_false_iff.mpr fun e => h1 (Nat.eq_of_beq_eq_true e)]
      obtain ⟨s, rfl⟩ : ∃ s, t = 2 * (s + 1) := ⟨t / 2 - 1, by omega⟩
      have := win_rounds (Val := Elt F) (e := .bf16) (r := 512) arg7.view arg7.view.junk (pOdd (F := F) arg3 arg4 (harg3.unread x0) (harg4.unread x1) k) c s
      rw [pOdd_eq _ _ _ _ _ _ _ _ (by omega)] at this
      rw [show 2 * (s + 1) / 2 = s + 1 by omega]
      exact this

end

/-- A buffer's strips after a trip: each stepped eight times. -/
theorem carry_steps {α : Type} {r : ℕ} {x : Fin 8 → (Str r).Idx → α} {g : ℕ → ((Str r).Idx → α) → (Str r).Idx → α}
    (S : Fin 8 → ℕ → (Str r).Idx → α) (b N : ℕ) (hx : ∀ c, x c = S c b)
    (hg : ∀ t < N, ∀ c : Fin 8, g (8 * t + c.val) (S c (b + t)) = S c (b + t + 1)) (t : ℕ) (ht : t < N) (c : Fin 8) :
    carry g x (8 * t + c.val) = S c (b + t + 1) := by
  induction t with
  | zero =>
    have := hg 0 ht c
    simp only [Nat.mul_zero, Nat.zero_add, Nat.add_zero] at this ⊢
    rw [carry_zero, hx, this]
  | succ t ih => rw [carry_succ, ih (by omega)]; exact hg (t + 1) ht c

section
variable (𝒱 : Variants) (c : Dev nD) (bd : Option 𝒱.V) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole) (v142 : FVec F S512x128 .bf16)

  (x0 : Vec F S1x1x128x2048 .bf16) (x1 : Vec F S1x1x32x512x128 .bf16) (x2 : Vec F S1x1x32x64x512 .bf16)
  (G7 : BufTy.Contents (Elt F) arg7.view.ty) (G8 : BufTy.Contents (Elt F) arg8.view.ty) (G9 : BufTy.Contents (Elt F) arg9.view.ty) (G10 : BufTy.Contents (Elt F) arg10.view.ty)

/-- The stores of the loop's first `k` trips, buffer by buffer. -/
abbrev pbL (k : ℕ) := pb_k0_t1 (F := F) 𝒱 c bd i arg3 harg3 arg4 harg4 arg5 harg5 arg6 harg6 arg7 harg7 arg8 harg8 arg9 harg9 arg10 harg10 v142 (harg3.unread x0) (harg4.unread x1) (harg5.unread x2) G7 G8 G9 G10 k

/-- The loop keeps the state: before trip `k` the weights of block `8k` are stored, the sums hold `8k + 1` blocks and the accumulator `8k`. -/
theorem loop_state
    (h7 : ∀ s, win (r := 512) s (arg7.view.read (Elt F) G7) = pS x0 x1 s 0)
    (h9 : ∀ s, win (r := 8) s (arg9.view.read (Elt F) G9) = lS x0 x1 s 1)
    (h10 : ∀ s, win (r := 64) s (arg10.view.read (Elt F) G10) = aS x0 x1 x2 s 0) (k : ℕ) (hk : k ≤ k0_t1_loop.trips) :
    (∀ s, win (r := 512) s (arg7.view.read (Elt F) (arg7.view.writes (Elt F) G7 (pbL 𝒱 c bd i arg3 harg3 arg4 harg4 arg5 harg5 arg6 harg6 arg7 harg7 arg8 harg8 arg9 harg9 arg10 harg10 v142 x0 x1 x2 G7 G8 G9 G10 k).1)) = pS x0 x1 s (8 * k))
    ∧ (∀ s, win (r := 8) s (arg9.view.read (Elt F) (arg9.view.writes (Elt F) G9 (pbL 𝒱 c bd i arg3 harg3 arg4 harg4 arg5 harg5 arg6 harg6 arg7 harg7 arg8 harg8 arg9 harg9 arg10 harg10 v142 x0 x1 x2 G7 G8 G9 G10 k).2.2.1)) = lS x0 x1 s (8 * k + 1))
    ∧ (∀ s, win (r := 64) s (arg10.view.read (Elt F) (arg10.view.writes (Elt F) G10 (pbL 𝒱 c bd i arg3 harg3 arg4 harg4 arg5 harg5 arg6 harg6 arg7 harg7 arg8 harg8 arg9 harg9 arg10 harg10 v142 x0 x1 x2 G7 G8 G9 G10 k).2.2.2)) = aS x0 x1 x2 s (8 * k)) := by
  induction k with
  | zero => exact ⟨h7, h9, h10⟩
  | succ k ih =>
    obtain ⟨i7, i9, i10⟩ := ih (by omega)
    have hs := pb_k0_t1_succ (F := F) 𝒱 c bd i arg3 harg3 arg4 harg4 arg5 harg5 arg6 harg6 arg7 harg7 arg8 harg8 arg9 harg9 arg10 harg10 v142 (harg3.unread x0) (harg4.unread x1) (harg5.unread x2) G7 G8 G9 G10 ⟨k, by omega⟩
    unfold pbL at *
    dsimp only [tripL_k0_t1] at hs
    rw [hs]
    refine ⟨fun s => ?_, fun s => ?_, fun s => ?_⟩
    · rw [View.writes_append, trip_p0, win_rounds (Val := Elt F) (e := .bf16) (r := 512) _ _ _ s 3, pOdd_eq _ _ _ _ _ _ _ _ (by omega)]
      exact congrArg _ (show 8 * k + 2 * 3 + 2 = 8 * (k + 1) by omega)
    · rw [View.writes_append, trip_l, carried_eq, win_rounds (Val := Elt F) (e := .f32) (r := 8) _ _ _ s 7]
      refine (carry_steps (lS x0 x1) (8 * k + 1) 8 (fun s => i9 s) (fun t ht s => ?_) 7 (by omega) s).trans rfl
      beta_reduce
      rw [sc_add, div_add, qRd_eq, kRd_eq, show 8 * k + (sc t).val + 1 = 8 * k + 1 + t by simp only [sc]; omega]
      rfl
    · rw [View.writes_append, trip_acc, carried_eq, win_rounds (Val := Elt F) (e := .f32) (r := 64) _ _ _ s 7]
      refine (carry_steps (aS x0 x1 x2) (8 * k) 8 (fun s => i10 s) (fun t ht s => ?_) 7 (by omega) s).trans rfl
      beta_reduce
      rw [pRd_eq arg3 harg3 arg4 harg4 x0 x1 arg7 arg8 _ ⟨k, by omega⟩ i7 t ht, div_add, vRd_eq, show 8 * k + (sc t).val = 8 * k + t by simp only [sc]; omega]
      rfl

end

end Cert.KernelIdeal.Att

end
-- ==== Proof.Run.lean ====
module

public import proofs.«01_k».proof.Proof.Gen.KernelIdeal.Frame.Runs

/-! The attention body, run once: what it stores, over any float values. -/

@[expose] public section

set_option maxRecDepth 16384

noncomputable section

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option maxHeartbeats 1600000 in
/-- The attention body run once, over any float values: a list of pieces written to the output block, together
    with the proof that the body, started on whole buffers (the three input blocks at `x0`, `x1`, `x2`, the output
    block and the four scratch buffers at anything), ends with the inputs unchanged, the scratch buffers at some
    contents and the output block holding those pieces. -/
noncomputable def kernelRun (c : Dev nD) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole)
    (x0 : Vec F S1x1x128x2048 .bf16) (x1 : Vec F S1x1x32x512x128 .bf16) (x2 : Vec F S1x1x32x64x512 .bf16) :
    { L3 : BufTy.Contents (Elt F) arg7.view.ty → BufTy.Contents (Elt F) arg8.view.ty → BufTy.Contents (Elt F) arg9.view.ty → BufTy.Contents (Elt F) arg10.view.ty → List (View.Piece (Elt F) S1x1x64x2048 .bf16) //
      ∀ (E : Set ℕ) (K : PUnit → sProp (MT nD τ sig Unit (Elt F) ℕ (UR sig nD τ) ℕ)) (g7 : BufTy.Contents (Elt F) arg7.view.ty) (g8 : BufTy.Contents (Elt F) arg8.view.ty) (g9 : BufTy.Contents (Elt F) arg9.view.ty) (g10 : BufTy.Contents (Elt F) arg10.view.ty),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f (L3 g7 g8 g9 g10)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attention_bounded i arg3 harg3 arg4 harg4 arg5 harg5 arg6 harg6 arg7 harg7 arg8 harg8 arg9 harg9 arg10 harg10) K } := by
  refine ⟨?_, fun E K fs0 fs1 fs2 fs3 => ?run⟩
  case run =>
    simp only [cc0_attention_bounded_eq_skeleton]; unfold cc0_attention_bounded_skel
    simp only [k0_part126_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton]
    unfold owns
    iintro ⟨⟨%f0, %hf0, H0⟩, ⟨%f1, %hf1, H1⟩, ⟨%f2, %hf2, H2⟩, ⟨%d3, %f3, -, H3⟩, HS0, HS1, HS2, HS3, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Att

end
-- ==== Proof.Root.lean ====
module

public import proofs.«01_k».proof.Proof.State
public import proofs.«01_k».proof.Proof.Run

@[expose] public section

set_option maxRecDepth 16384

noncomputable section

/-! The whole body: the first block's weights, the loop, the last eight blocks, and the quotient it stores. -/

namespace Cert.KernelIdeal.Att

open Cert.KernelIdeal.Gen Cert.Strip
open Idealize.ShloMosaic Idealize.ShloMosaic.TcCoe

variable {F : FTy → Type} [FloatOps F] [Named F]

section
variable (c : Dev nD) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole)
  (x0 : Vec F S1x1x128x2048 .bf16) (x1 : Vec F S1x1x32x512x128 .bf16) (x2 : Vec F S1x1x32x64x512 .bf16)
  (g7 : BufTy.Contents (Elt F) arg7.view.ty) (g8 : BufTy.Contents (Elt F) arg8.view.ty) (g9 : BufTy.Contents (Elt F) arg9.view.ty) (g10 : BufTy.Contents (Elt F) arg10.view.ty)

/-- Block `j` of the keys or the values, as the body reads it outside the loop. -/
abbrev kAt (X4 : BufTy.Contents (Elt F) arg4.view.ty) (j : Fin 32) : Vec F S1x1x1x512x128 .bf16 :=
  View.readAt (Elt F) arg4.view (Rect.unit (s := S1x1x32x512x128) ![0, 0, j.val, 0, 0] S1x1x1x512x128.size (inb_k j)).toLoadRect X4
/-- The block of values read in the unrolled part. -/
abbrev vAt (X5 : BufTy.Contents (Elt F) arg5.view.ty) (j : Fin 32) : Vec F S1x1x1x64x512 .bf16 :=
  View.readAt (Elt F) arg5.view (Rect.unit (s := S1x1x32x64x512) ![0, 0, j.val, 0, 0] S1x1x1x64x512.size (inb_v j)).toLoadRect X5

/-- The weights of block `j (n / 8)` for the strip of the `n`-th store. -/
abbrev pAt (j : ℕ → ℕ) (n : ℕ) : FVec F S512x256 .bf16 := k0_pay6 (kAt arg4 (harg4.unread x1) (blk (j (n / 8)))) (qRd arg3 (harg3.unread x0) (sc n))

/-- The stores before the loop. -/
abbrev p0Pre : List (View.Piece (Elt F) S512x2048 .bf16) := pieces (Val := Elt F) (e := .bf16) (r := 512) (pAt arg3 harg3 arg4 harg4 x0 x1 (fun _ => 0)) 8
/-- The row sums before the loop. -/
abbrev lPre : List (View.Piece (Elt F) S8x2048 .f32) :=
  carriedOn (Val := Elt F) (e := .f32) (r := 8) arg9.view (fun n l => k0_pay5 (kAt arg4 (harg4.unread x1) (blk 0)) (qRd arg3 (harg3.unread x0) (sc n)) l)
    [⟨Rect.unit ![0, 0] S8x2048.size inb_S8x2048_S8x2048_0_0, k0_pay302⟩] 8
/-- The accumulator before the loop. -/
abbrev aPre : List (View.Piece (Elt F) S64x2048 .f32) := [⟨Rect.unit ![0, 0] S64x2048.size inb_S64x2048_S64x2048_0_0, k0_pay303⟩]

/-- The stores after the loop, over the loop's. -/
abbrev lPost (L : List (View.Piece (Elt F) S8x2048 .f32)) : List (View.Piece (Elt F) S8x2048 .f32) :=
  carriedOn (Val := Elt F) (e := .f32) (r := 8) arg9.view (fun n l => k0_pay5 (kAt arg4 (harg4.unread x1) (blk (25 + n / 8))) (qRd arg3 (harg3.unread x0) (sc n)) l) L 56
/-- The weights after the loop. -/
abbrev pPost (L0 L1 : List (View.Piece (Elt F) S512x2048 .bf16)) (n : ℕ) : FVec F S512x256 .bf16 :=
  bif Nat.beq (n / 8 % 2) 1 then
    arg8.view.readCov (pieces (Val := Elt F) (e := .bf16) (r := 512) (pAt arg3 harg3 arg4 harg4 x0 x1 (fun t => 25 + 2 * t)) (8 * ((n / 8 + 1) / 2)) ++ L1) (rect 512 (sc n)).toLoadRect
  else arg7.view.readCov (pieces (Val := Elt F) (e := .bf16) (r := 512) (pAt arg3 harg3 arg4 harg4 x0 x1 (fun t => 26 + 2 * t)) (8 * (n / 8 / 2)) ++ L0) (rect 512 (sc n)).toLoadRect
/-- The accumulator after the loop. -/
abbrev aPost (L0 L1 : List (View.Piece (Elt F) S512x2048 .bf16)) (L : List (View.Piece (Elt F) S64x2048 .f32)) : List (View.Piece (Elt F) S64x2048 .f32) :=
  carriedOn (Val := Elt F) (e := .f32) (r := 64) arg10.view (fun n a => k0_pay2 a (vAt arg5 (harg5.unread x2) (blk (24 + n / 8))) (pPost arg3 harg3 arg4 harg4 arg7 arg8 x0 x1 L0 L1 n)) L 64

/-- The one store of the body to its output. -/
theorem run_stores : (kernelRun (F := F) c i arg3 harg3 arg4 harg4 arg5 harg5 arg6 harg6 arg7 harg7 arg8 harg8 arg9 harg9 arg10 harg10 x0 x1 x2).1 g7 g8 g9 g10
    = [⟨Rect.unit ![0, 0, 0, 0] S1x1x64x2048.size inb_S1x1x64x2048_S1x1x64x2048_0_0_0_0,
        k0_pay3
          (arg9.view.readCov (lPost arg3 harg3 arg4 harg4 arg9 x0 x1 ((pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3).2.2.1 ++ lPre arg3 harg3 arg4 harg4 arg9 x0 x1)) (Rect.unit ![0, 0] S8x2048.size inb_S8x2048_S8x2048_0_0).toLoadRect)
          (arg10.view.readCov (aPost arg3 harg3 arg4 harg4 arg5 harg5 arg7 arg8 arg10 x0 x1 x2 ((pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3).1 ++ p0Pre arg3 harg3 arg4 harg4 x0 x1) (pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3).2.1 ((pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3).2.2.2 ++ aPre)) (Rect.unit ![0, 0] S64x2048.size inb_S64x2048_S64x2048_0_0).toLoadRect)⟩] := by
  sl_kernel_rfl

end

end Cert.KernelIdeal.Att

end
-- ==== Proof.Out.lean ====
module

public import proofs.«01_k».proof.Proof.Root

@[expose] public section

set_option maxRecDepth 16384

noncomputable section

/-! What the body stores, as a function of its input blocks alone. -/

namespace Cert.KernelIdeal.Att

open Cert.KernelIdeal.Gen Cert.Strip
open Idealize.ShloMosaic Idealize.ShloMosaic.TcCoe

variable {F : FTy → Type} [FloatOps F] [Named F]

/-- The quotient of the weighted sums by the sums of the weights, over all 32 blocks of keys. -/
def outVal (x0 : Vec F S1x1x128x2048 .bf16) (x1 : Vec F S1x1x32x512x128 .bf16) (x2 : Vec F S1x1x32x64x512 .bf16) : Vec F S1x1x64x2048 .bf16 :=
  k0_pay3 (glue (r := 8) fun s => lS x0 x1 s 32) (glue (r := 64) fun s => aS x0 x1 x2 s 32)

section
variable (c : Dev nD) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole)
  (x0 : Vec F S1x1x128x2048 .bf16) (x1 : Vec F S1x1x32x512x128 .bf16) (x2 : Vec F S1x1x32x64x512 .bf16)
  (g7 : BufTy.Contents (Elt F) arg7.view.ty) (g8 : BufTy.Contents (Elt F) arg8.view.ty) (g9 : BufTy.Contents (Elt F) arg9.view.ty) (g10 : BufTy.Contents (Elt F) arg10.view.ty)

/-- The block of keys read in the unrolled part. -/
theorem kAt_eq (j : Fin 32) : kAt (F := F) arg4 (harg4.unread x1) j = kB x1 j.val := by
  unfold kAt kB
  rw [View.readAt_unit arg4.view _ _ rfl (inb_k j), harg4.read_unread]
  exact congrArg (kF x1) (show blk j.val = j from Fin.ext (Nat.mod_eq_of_lt j.isLt)).symm

/-- The block of values read in the unrolled part. -/
theorem vAt_eq (j : Fin 32) : vAt (F := F) arg5 (harg5.unread x2) j = vB x2 j.val := by
  unfold vAt vB
  rw [View.readAt_unit arg5.view _ _ rfl (inb_v j), harg5.read_unread]
  exact congrArg (vF x2) (show blk j.val = j from Fin.ext (Nat.mod_eq_of_lt j.isLt)).symm

/-- A block number below 32 is itself. -/
theorem blk_val (j : ℕ) (h : j < 32) : (blk j).val = j := Nat.mod_eq_of_lt h

/-- The weights of a round in the unrolled part. -/
theorem pAt_eq (j : ℕ → ℕ) (t : ℕ) (h : j t < 32) (s : Fin 8) : pAt (F := F) arg3 harg3 arg4 harg4 x0 x1 j (8 * t + s.val) = pS x0 x1 s (j t) := by
  unfold pAt pS
  rw [qRd_eq, kAt_eq, sc_add, div_add, blk_val _ h]

/-- The first buffer of weights before the loop. -/
theorem pre7 (s : Fin 8) : win (r := 512) s (arg7.view.read (Elt F) (arg7.view.writes (Elt F) arg7.view.junk (p0Pre arg3 harg3 arg4 harg4 x0 x1))) = pS x0 x1 s 0 := by
  unfold p0Pre
  rw [win_rounds (Val := Elt F) (e := .bf16) (r := 512) _ _ _ s 0, pAt_eq _ _ _ _ _ _ _ _ (by omega)]

/-- The row sums before the loop. -/
theorem pre9 (s : Fin 8) : win (r := 8) s (arg9.view.read (Elt F) (arg9.view.writes (Elt F) arg9.view.junk (lPre arg3 harg3 arg4 harg4 arg9 x0 x1))) = lS x0 x1 s 1 := by
  unfold lPre
  rw [carriedOn_eq, View.writes_append, win_rounds (Val := Elt F) (e := .f32) (r := 8) _ _ _ s 0]
  refine carry_steps (lS x0 x1) 0 1 (fun s => ?_) (fun t ht s => ?_) 0 (by omega) s
  · rw [View.read_writes_full]; rfl
  · beta_reduce
    obtain rfl : t = 0 := by omega
    rw [sc_add, qRd_eq, kAt_eq, blk_val _ (by omega)]
    rfl

/-- The accumulator before the loop. -/
theorem pre10 (s : Fin 8) : win (r := 64) s (arg10.view.read (Elt F) (arg10.view.writes (Elt F) arg10.view.junk aPre)) = aS x0 x1 x2 s 0 := by
  unfold aPre
  rw [View.read_writes_full]; rfl

/-- The weights the `n`-th update after the loop reads. -/
theorem pPost_eq (L0 L1 : List (View.Piece (Elt F) S512x2048 .bf16))
    (h0 : ∀ s, win (r := 512) s (arg7.view.read (Elt F) (arg7.view.writes (Elt F) arg7.view.junk L0)) = pS x0 x1 s 24) (t : ℕ) (ht : t < 8) (s : Fin 8) :
    pPost (F := F) arg3 harg3 arg4 harg4 arg7 arg8 x0 x1 L0 L1 (8 * t + s.val) = pS x0 x1 s (24 + t) := by
  have hc := s.isLt
  unfold pPost
  rw [sc_add, div_add]
  have hr : ∀ (v : View sig .tc .vmem S512x2048 .bf16) M, v.readCov M (rect 512 s).toLoadRect = win (r := 512) s (v.read (Elt F) (v.writes (Elt F) v.junk M)) := fun v M => rfl
  by_cases h1 : t % 2 = 1
  · rw [show Nat.beq (t % 2) 1 = true by rw [h1]; rfl]
    obtain ⟨u, rfl⟩ : ∃ u, t = 2 * u + 1 := ⟨t / 2, by omega⟩
    rw [show (2 * u + 1 + 1) / 2 = u + 1 by omega]
    refine (hr arg8.view _).trans ?_
    rw [View.writes_append, win_rounds (Val := Elt F) (e := .bf16) (r := 512) _ _ _ s u, pAt_eq _ _ _ _ _ _ _ _ (by omega), show 25 + 2 * u = 24 + (2 * u + 1) by omega]
  · rw [show Nat.beq (t % 2) 1 = false from Bool.eq_false_iff.mpr fun e => h1 (Nat.eq_of_beq_eq_true e)]
    refine (hr arg7.view _).trans ?_
    by_cases hz : t = 0
    · subst hz; exact h0 s
    obtain ⟨u, rfl⟩ : ∃ u, t = 2 * (u + 1) := ⟨t / 2 - 1, by omega⟩
    rw [show 2 * (u + 1) / 2 = u + 1 by omega]
    rw [View.writes_append, win_rounds (Val := Elt F) (e := .bf16) (r := 512) _ _ _ s u, pAt_eq _ _ _ _ _ _ _ _ (by omega), show 26 + 2 * u = 24 + 2 * (u + 1) by omega]

/-- The body's one store to its output, from its input blocks alone. -/
theorem run_out : (kernelRun (F := F) c i arg3 harg3 arg4 harg4 arg5 harg5 arg6 harg6 arg7 harg7 arg8 harg8 arg9 harg9 arg10 harg10 x0 x1 x2).1 g7 g8 g9 g10
    = [⟨Rect.unit ![0, 0, 0, 0] S1x1x64x2048.size inb_S1x1x64x2048_S1x1x64x2048_0_0_0_0, outVal x0 x1 x2⟩] := by
  rw [run_stores]
  obtain ⟨i7, i9, i10⟩ := loop_state Variants.none c none i arg3 harg3 arg4 harg4 arg5 harg5 arg6 harg6 arg7 harg7 arg8 harg8 arg9 harg9 arg10 harg10
    (k0_pay327 (kAt arg4 (harg4.unread x1) 0)) x0 x1 x2 (arg7.view.writes (Elt F) arg7.view.junk (p0Pre arg3 harg3 arg4 harg4 x0 x1)) g8
    (arg9.view.writes (Elt F) arg9.view.junk (lPre arg3 harg3 arg4 harg4 arg9 x0 x1)) (arg10.view.writes (Elt F) arg10.view.junk aPre)
    (pre7 arg3 harg3 arg4 harg4 arg7 x0 x1) (pre9 arg3 harg3 arg4 harg4 arg9 x0 x1) (pre10 arg10 x0 x1 x2) 3 (by decide)
  generalize (pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3) = pb at i7 i9 i10 ⊢
  unfold outVal
  refine congrArg (fun w => [(⟨Rect.unit ![0, 0, 0, 0] S1x1x64x2048.size inb_S1x1x64x2048_S1x1x64x2048_0_0_0_0, w⟩ : View.Piece (Elt F) S1x1x64x2048 .bf16)]) ?_
  refine congrArg₂ k0_pay3 (eq_glue _ _ fun s => ?_) (eq_glue _ _ fun s => ?_)
  · refine (congrArg (win (r := 8) s) (View.readAt_full arg9.view _ _)).trans ?_
    unfold lPost
    rw [carriedOn_eq, View.writes_append, win_rounds (Val := Elt F) (e := .f32) (r := 8) _ _ _ s 6]
    refine (carry_steps (lS x0 x1) 25 7 (fun s => ?_) (fun t ht s => ?_) 6 (by omega) s).trans rfl
    · rw [View.writes_append]; exact i9 s
    · beta_reduce
      rw [sc_add, div_add, qRd_eq, kAt_eq, blk_val _ (by omega)]
      rfl
  · refine (congrArg (win (r := 64) s) (View.readAt_full arg10.view _ _)).trans ?_
    unfold aPost
    rw [carriedOn_eq, View.writes_append, win_rounds (Val := Elt F) (e := .f32) (r := 64) _ _ _ s 7]
    refine (carry_steps (aS x0 x1 x2) 24 8 (fun s => ?_) (fun t ht s => ?_) 7 (by omega) s).trans rfl
    · rw [View.writes_append]; exact i10 s
    · beta_reduce
      rw [pPost_eq arg3 harg3 arg4 harg4 arg7 arg8 x0 x1 _ _ (fun s => by rw [View.writes_append]; exact i7 s) t ht, div_add, vAt_eq, blk_val _ (by omega)]
      rfl

end

end Cert.KernelIdeal.Att

end
-- ==== Proof.Frame.lean ====
module

public import proofs.«01_k».proof.Proof.Out
public import Idealize.ShloMosaic.Lib.Claim
public import Idealize.ShloMosaic.Lib.Pipeline.Value

@[expose] public section

set_option maxRecDepth 16384

noncomputable section

/-! The launch: what the output holds after each grid point, the body's obligation, and the run. -/

namespace Cert.KernelIdeal.Att

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The body's run, the scratch buffers at any contents: it leaves its output at the quotient of its input blocks. -/
theorem kernelRun_owned (c : Dev nD) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole)
    (x0 : Vec F S1x1x128x2048 .bf16) (x1 : Vec F S1x1x32x512x128 .bf16) (x2 : Vec F S1x1x32x64x512 .bf16)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outVal x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_attention_bounded i arg3 harg3 arg4 harg4 arg5 harg5 arg6 harg6 arg7 harg7 arg8 harg8 arg9 harg9 arg10 harg10) K := by
  have H := fun g7 g8 g9 g10 => (kernelRun (F := F) c i arg3 harg3 arg4 harg4 arg5 harg5 arg6 harg6 arg7 harg7 arg8 harg8 arg9 harg9 arg10 harg10 x0 x1 x2).2 E K g7 g8 g9 g10
  simp only [run_out] at H
  unfold owns at H ⊢
  iintro ⟨H0, H1, H2, H3, ⟨%d7, %f7, -, HS0⟩, ⟨%d8, %f8, -, HS1⟩, ⟨%d9, %f9, -, HS2⟩, ⟨%d10, %f10, -, HS3⟩, Hk⟩
  iapply (H f7 f8 f9 f10)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, ⟨%e3, H3⟩, HS⟩
  iapply Hk
  isplitl [H0]; · iexact H0
  isplitl [H1]; · iexact H1
  isplitl [H2]; · iexact H2
  isplitl [H3]
  · iexists _; isplitr
    swap; · iexact H3
    ipureintro; exact View.read_writes_full _ _ _ _ _
  iexact HS

/-! ## What the output holds after each point -/

/-- What the output's staging buffer holds after the body at point `t`: the quotient of the point's input blocks. -/
def outsAt0 (c : Dev nD) (t : Fin cfg0.N) : Vec F S1x1x64x2048 .bf16 :=
  outVal (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The keys are unchanged by a grid point. -/
theorem after0_1 (c : Dev nD) (t : Fin cfg0.N) : (dats m 0 c).after 1 t = iblk m c 1 t := by dsimp only [dats]
/-- The values are unchanged by a grid point. -/
theorem after0_2 (c : Dev nD) (t : Fin cfg0.N) : (dats m 0 c).after 2 t = iblk m c 2 t := by dsimp only [dats]
/-- The output after a grid point. -/
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The keys before a grid point. -/
theorem before0_1 (c : Dev nD) (t : Fin cfg0.N) (d) : (dats m 0 c).before 1 t d = iblk m c 1 t :=
  before0_1_of m (dats m 0 c) (A_eq m c 1) (after0_1 m c) t d
/-- The values before a grid point. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  iintro ⟨⟨⟨HS0, HS1, HS2, HS3⟩, Hg⟩, Ho, ⟨%d0, H0⟩, ⟨%d1, H1⟩, ⟨%d2, H2⟩, ⟨%d3, H3⟩⟩
  iapply (kernelRun_owned c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run leaves the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Att

end
-- ==== Proof.KernelFrame.lean ====
module

public import proofs.«01_k».proof.Defs
public import proofs.«01_k».proof.Proof.Gen.Kernel
public import proofs.«01_k».proof.Proof.Frame

@[expose] public section

set_option maxRecDepth 16384

noncomputable section

/-! The kernel as compiled and the kernel printed for the extended reals are one program: they differ in how
the folded scale is spelt, a bit pattern in the one and a named constant in the other. Read on bit patterns, with the
named constant standing for its pattern, the second is the first, so that its frame is the first one's. -/

namespace Cert.KernelIdeal.Att

open Idealize.ShloMosaic Idealize.ShloMosaic.TcCoe Idealize.ShloMosaic.Tactic Idealize.SL.Sem

/-- On bit patterns a named constant is the pattern it was printed from. -/
local instance : Named Bits where
  named _ _ {φ} b := Scalar.ofBits φ b

/-- The frame of the kernel as compiled is that of the kernel read on bit patterns. -/
theorem quiescent_same : @Cert.quiescent_Kernel Cert.Kernel.Gen.facts =
    ∀ (m : (ℓ : Loc nD τ sig) → Buf (Elt Bits) ℓ) (g : Dev nD → PrngReg), True →
      θ_run (defs (F := Bits)) (onTc (τ := τ) (main (F := Bits))) ⟨m, fun _ => 0, g⟩ (fun r => (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.sem = fun _ => 0) := by
  sl_kernel_rfl

/-- The kernel as compiled runs, leaves its arguments as they were and every semaphore counter at zero. -/
theorem quiescent_kernel : @Cert.quiescent_Kernel Cert.Kernel.Gen.facts :=
  quiescent_same.mpr fun m g _ => frame m g

end Cert.KernelIdeal.Att

end
-- ==== Proof.Pure.lean ====
module

public import proofs.«01_k».proof.Proof.Out
public import Idealize.ShloMosaic.Lib.Pointwise
public import Idealize.ShloMosaic.PureOps.IdealRules

/-! The pure values of the attention body over the extended reals: weights, row sums, accumulator. -/

@[expose] public section

set_option maxRecDepth 16384

noncomputable section

namespace Cert.KernelIdeal.Att

open Cert.KernelIdeal Cert.KernelIdeal.Gen
open Idealize.ShloMosaic Idealize.ShloMosaic.TcCoe

/-- The named scale is `1 / (8 log 2)`. -/
theorem scale_eq : Named.named (F := Ideal) Cert.KernelIdeal.κ "scale_log2e" (φ := .f32) 0x3E38AA3B#32 = (((8 * (Real.log 2))⁻¹ : ℝ) : EReal) :=
  IdealRules.named_const.ideal_named_scalar _ _ _ _ rfl

/-- An entry of the weights of a strip. -/
theorem pay4_at (k : FVec Ideal S1x1x1x512x128 .bf16) (q : FVec Ideal S1x1x128x256 .bf16) (r : Fin 512) (x : Fin 256) :
    k0_pay4 (F := Ideal) k q (ix2 r x)
      = Ideal.exp2 ((∑ e : Fin 128, k (ix5 0 0 0 r e) * q (ix4 0 0 e x)) * (((8 * (Real.log 2))⁻¹ : ℝ) : EReal)) := by
  rw [← scale_eq]
  pointwise [k0_pay4]
  rfl

/-- The weights as stored are the weights. -/
theorem pay6_at (k : FVec Ideal S1x1x1x512x128 .bf16) (q : FVec Ideal S1x1x128x256 .bf16) (r : Fin 512) (x : Fin 256) :
    k0_pay6 (F := Ideal) k q (ix2 r x) = k0_pay4 (F := Ideal) k q (ix2 r x) := by
  pointwise [k0_pay6]

/-- An entry of the row sums after one block. -/
theorem pay5_at (k : FVec Ideal S1x1x1x512x128 .bf16) (q : FVec Ideal S1x1x128x256 .bf16) (l : FVec Ideal S8x256 .f32) (u : Fin 8) (x : Fin 256) :
    k0_pay5 (F := Ideal) k q l (ix2 u x)
      = l (ix2 u x) + ∑ i : Fin 64, k0_pay4 (F := Ideal) k q (ix2 ⟨i.val * 8 + u.val, by omega⟩ x) := by
  pointwise [k0_pay5]

/-- An entry of the accumulator after one block. -/
theorem pay2_at (a : FVec Ideal S64x256 .f32) (v : FVec Ideal S1x1x1x64x512 .bf16) (p : FVec Ideal S512x256 .bf16) (d : Fin 64) (x : Fin 256) :
    k0_pay2 (F := Ideal) a v p (ix2 d x) = a (ix2 d x) + ∑ r : Fin 512, v (ix5 0 0 0 d r) * p (ix2 r x) := by
  pointwise [k0_pay2]

/-- An entry of the output: the accumulator over the sum of the eight row sums. -/
theorem pay3_at (l : FVec Ideal S8x2048 .f32) (a : FVec Ideal S64x2048 .f32) (z z' : Fin 1) (d : Fin 64) (x : Fin 2048) :
    k0_pay3 (F := Ideal) l a (ix4 z z' d x) = Ideal.div (a (ix2 d x)) (∑ u : Fin 8, l (ix2 u x)) := by
  pointwise [k0_pay3]

/-- The row sums start at zero. -/
theorem pay302_at (i : S8x2048.Idx) : k0_pay302 (F := Ideal) i = 0 := by
  idx_vars i
  pointwise [k0_pay302]

/-- The accumulator starts at zero. -/
theorem pay303_at (i : S64x2048.Idx) : k0_pay303 (F := Ideal) i = 0 := by
  idx_vars i
  pointwise [k0_pay303]

section
variable (x0 : FVec Ideal S1x1x128x2048 .bf16) (x1 : FVec Ideal S1x1x32x512x128 .bf16) (x2 : FVec Ideal S1x1x32x64x512 .bf16)

/-- An entry of a strip of queries. -/
theorem qB_at (c : Fin 8) (e : Fin 128) (x : Fin 256) :
    qB (F := Ideal) x0 c (ix4 0 0 e x) = x0 (ix4 0 0 e ⟨256 * c.val + x.val, by omega⟩) := by
  unfold qB VecWindow.window
  congr 1
  idx_ext

/-- An entry of a block of keys. -/
theorem kF_at (j : Fin 32) (r : Fin 512) (e : Fin 128) : kF (F := Ideal) x1 j (ix5 0 0 0 r e) = x1 (ix5 0 0 j r e) := by
  unfold kF VecWindow.window
  congr 1
  idx_ext

/-- An entry of a block of values. -/
theorem vF_at (j : Fin 32) (d : Fin 64) (r : Fin 512) : vF (F := Ideal) x2 j (ix5 0 0 0 d r) = x2 (ix5 0 0 j d r) := by
  unfold vF VecWindow.window
  congr 1
  idx_ext

/-- The weight of key `r` of block `j` for the query in column `x`. -/
def wt (j : Fin 32) (r : Fin 512) (x : Fin 2048) : EReal :=
  Ideal.exp2 ((∑ e : Fin 128, x1 (ix5 0 0 j r e) * x0 (ix4 0 0 e x)) * (((8 * (Real.log 2))⁻¹ : ℝ) : EReal))

/-- A weight from the entries of its key and its query. -/
theorem wt_eq (j : Fin 32) (r : Fin 512) (x : Fin 2048) (f g : Fin 128 → EReal) (hf : ∀ e, x1 (ix5 0 0 j r e) = f e) (hg : ∀ e, x0 (ix4 0 0 e x) = g e) :
    wt x0 x1 j r x = Ideal.exp2 ((∑ e, f e * g e) * (((8 * (Real.log 2))⁻¹ : ℝ) : EReal)) := by
  unfold wt
  simp only [hf, hg]

/-- The weights of a strip are the weights of the block. -/
theorem pay4_wt (c : Fin 8) (j : ℕ) (r : Fin 512) (x : Fin 256) :
    k0_pay4 (F := Ideal) (kB x1 j) (qB x0 c) (ix2 r x) = wt x0 x1 (blk j) r ⟨256 * c.val + x.val, by omega⟩ := by
  rw [pay4_at]
  unfold kB wt
  simp only [kF_at, qB_at]

/-- The number of a block is the block. -/
theorem blk_fin (j : Fin 32) : blk j.val = j := Fin.ext (Nat.mod_eq_of_lt j.isLt)

/-- The row sums after some blocks, as a sum of weights. -/
theorem lS_at (c : Fin 8) (n : ℕ) (u : Fin 8) (x : Fin 256) : lS (F := Ideal) x0 x1 c n (ix2 u x)
    = ∑ j ∈ Finset.range n, ∑ i : Fin 64, wt x0 x1 (blk j) ⟨i.val * 8 + u.val, by omega⟩ ⟨256 * c.val + x.val, by omega⟩ := by
  induction n with
  | zero => rw [Finset.sum_range_zero]; unfold lS; exact pay302_at (Rect.emb _ _)
  | succ n ih =>
    rw [Finset.sum_range_succ, ← ih, lS, pay5_at]
    simp only [pay4_wt]

/-- The accumulator after some blocks, as a sum of weights times values. -/
theorem aS_at (c : Fin 8) (n : ℕ) (d : Fin 64) (x : Fin 256) : aS (F := Ideal) x0 x1 x2 c n (ix2 d x)
    = ∑ j ∈ Finset.range n, ∑ r : Fin 512, x2 (ix5 0 0 (blk j) d r) * wt x0 x1 (blk j) r ⟨256 * c.val + x.val, by omega⟩ := by
  induction n with
  | zero => rw [Finset.sum_range_zero]; unfold aS; exact pay303_at (Rect.emb _ _)
  | succ n ih =>
    rw [Finset.sum_range_succ, ← ih, aS, pay2_at]
    unfold pS vB
    simp only [pay6_at, pay4_wt, vF_at]

/-- A block of outputs: the weighted sums of the values over the sums of the weights, key by key. -/
theorem outVal_at (z z' : Fin 1) (d : Fin 64) (x : Fin 2048) : outVal (F := Ideal) x0 x1 x2 (ix4 z z' d x)
    = Ideal.div (∑ s : Fin 16384, x2 (ix5 0 0 ⟨s.val / 512, by omega⟩ d ⟨s.val % 512, by omega⟩) * wt x0 x1 ⟨s.val / 512, by omega⟩ ⟨s.val % 512, by omega⟩ x)
        (∑ s : Fin 16384, wt x0 x1 ⟨s.val / 512, by omega⟩ ⟨s.val % 512, by omega⟩ x) := by
  have hx : (⟨256 * (⟨x.val / 256, by omega⟩ : Fin 8).val + (⟨x.val % 256, by omega⟩ : Fin 256).val, by show 256 * (x.val / 256) + x.val % 256 < 2048; omega⟩ : Fin 2048) = x :=
    Fin.ext (by show 256 * (x.val / 256) + x.val % 256 = x.val; omega)
  have hdiv : ∀ (j : Fin 32) (t : Fin 512) (h), (⟨(j.val * 512 + t.val) / 512, h⟩ : Fin 32) = j := fun j t h => Fin.ext (by show (j.val * 512 + t.val) / 512 = j.val; omega)
  have hmod : ∀ (j : Fin 32) (t : Fin 512) (h), (⟨(j.val * 512 + t.val) % 512, h⟩ : Fin 512) = t := fun j t h => Fin.ext (by show (j.val * 512 + t.val) % 512 = t.val; omega)
  unfold outVal
  rw [pay3_at]
  refine congrArg₂ Ideal.div ?_ ?_
  · refine (aS_at x0 x1 x2 ⟨x.val / 256, by omega⟩ 32 d ⟨x.val % 256, by omega⟩).trans ?_
    rw [hx, Fin.sum_univ_tiles (N := 16384) 32 512 (by norm_num), Finset.sum_range]
    simp only [blk_fin, hdiv, hmod]
  · refine (Finset.sum_congr rfl fun u _ => lS_at x0 x1 ⟨x.val / 256, by omega⟩ 32 u ⟨x.val % 256, by omega⟩).trans ?_
    rw [hx, Fin.sum_univ_tiles (N := 16384) 32 512 (by norm_num), Finset.sum_comm, Finset.sum_range]
    refine Finset.sum_congr rfl fun j _ => ?_
    rw [Finset.sum_comm, blk_fin]
    simp only [hdiv, hmod]
    exact (Fin.sum_univ_tiles 64 8 (by norm_num) fun r : Fin 512 => wt x0 x1 j r x).symm

end

end Cert.KernelIdeal.Att

end
-- ==== Proof.Host.lean ====
module

public import proofs.«01_k».proof.Proof.Frame
public import Idealize.ShloMosaic.Lib.Pointwise
public import Idealize.ShloMosaic.Lib.Pipeline.ValueKit

@[expose] public section

set_option maxRecDepth 16384

noncomputable section

/-! The arrays the kernel is called on, read at an index: queries padded with zeros to both key heads' width, keys with
the two heads side by side, values transposed in blocks. -/

namespace Cert.KernelIdeal.Att

open Cert.KernelIdeal Cert.KernelIdeal.Gen
open Idealize.ShloMosaic Idealize.ShloMosaic.TcCoe Idealize.SL.Sem

/-- The queries, transposed and padded. -/
def QT (Q : FVec Ideal S2x8x16384x64 .f32) : FVec Ideal S2x8x128x16384 .bf16 :=
  truncf .bf16 (concatenate S2x8x128x16384 1
    [⟨S2x4x128x16384, concatenate S2x4x128x16384 2 [⟨S2x4x64x16384, extractStridedSlice S2x4x64x16384 ![0, 0, 0, 0] (transpose S2x8x64x16384 [0, 1, 3, 2] Q transposes_S2x8x16384x64_S2x8x64x16384_0_1_3_2) slices_S2x8x64x16384_S2x4x64x16384_0_0_0_0⟩,
        ⟨S2x4x64x16384, broadcastInDim S2x4x64x16384 ![] bcast_S_S2x4x64x16384 (constant (F := Ideal) S_ .f32 0x00000000#32)⟩] concatenates_S2x4x64x16384_S2x4x64x16384_S2x4x128x16384_d2⟩,
     ⟨S2x4x128x16384, concatenate S2x4x128x16384 2 [⟨S2x4x64x16384, broadcastInDim S2x4x64x16384 ![] bcast_S_S2x4x64x16384 (constant (F := Ideal) S_ .f32 0x00000000#32)⟩,
        ⟨S2x4x64x16384, extractStridedSlice S2x4x64x16384 ![0, 4, 0, 0] (transpose S2x8x64x16384 [0, 1, 3, 2] Q transposes_S2x8x16384x64_S2x8x64x16384_0_1_3_2) slices_S2x8x64x16384_S2x4x64x16384_0_4_0_0⟩] concatenates_S2x4x64x16384_S2x4x64x16384_S2x4x128x16384_d2⟩]
    concatenates_S2x4x128x16384_S2x4x128x16384_S2x8x128x16384_d1) bitsLt_bf16_f32

/-- The keys, the heads of a key side by side, in blocks of keys. -/
def KK (K : FVec Ideal S2x2x16384x64 .f32) : FVec Ideal S2x1x32x512x128 .bf16 :=
  truncf .bf16 (shapeCast _ (transpose S2x16384x2x64 [0, 2, 1, 3] K transposes_S2x2x16384x64_S2x16384x2x64_0_2_1_3) shapeCasts_S2x16384x2x64_S2x1x32x512x128) bitsLt_bf16_f32

/-- The values, in blocks of keys, each transposed. -/
def VT (V : FVec Ideal S2x2x16384x64 .f32) : FVec Ideal S2x2x32x64x512 .bf16 :=
  truncf .bf16 (transpose S2x2x32x64x512 [0, 1, 2, 4, 3] (shapeCast _ V shapeCasts_S2x2x16384x64_S2x2x32x512x64) transposes_S2x2x32x512x64_S2x2x32x64x512_0_1_2_4_3) bitsLt_bf16_f32

variable (m : (ℓ : Loc nD τ sig) → Buf (Elt Ideal) ℓ)

/-- The queries the call is given. -/
theorem V_q (c : Dev nD) : V m c main_v11 = QT (m ((c : Thread nD τ).loc main_arg0)) := by
  entry_read
  rfl

/-- The keys the call is given. -/
theorem V_k (c : Dev nD) : V m c main_v12 = KK (m ((c : Thread nD τ).loc main_arg1)) := by
  entry_read
  rfl

/-- The values the call is given. -/
theorem V_v (c : Dev nD) : V m c main_v13 = VT (m ((c : Thread nD τ).loc main_arg2)) := by
  entry_read
  rfl

/-- An entry of the prepared queries. -/
theorem QT_at (Q : FVec Ideal S2x8x16384x64 .f32) (b : Fin 2) (n : Fin 8) (e : Fin 128) (x : Fin 16384) : QT Q (ix4 b n e x)
    = if h : n.val < 4 then (if h' : e.val < 64 then Q (ix4 b n x ⟨e.val, h'⟩) else 0)
      else if h' : e.val < 64 then 0 else Q (ix4 b ⟨4 + (n.val - 4), by omega⟩ x ⟨e.val - 64, by omega⟩) := by
  pointwise [QT]

/-- An entry of the prepared keys. -/
theorem KK_at (K : FVec Ideal S2x2x16384x64 .f32) (b : Fin 2) (z : Fin 1) (j : Fin 32) (r : Fin 512) (e : Fin 128) :
    KK K (ix5 b z j r e) = K (ix4 b ⟨e.val / 64, by omega⟩ ⟨j.val * 512 + r.val, by omega⟩ ⟨e.val % 64, by omega⟩) := by
  pointwise [KK]

/-- An entry of the prepared values. -/
theorem VT_at (V : FVec Ideal S2x2x16384x64 .f32) (b g : Fin 2) (j : Fin 32) (d : Fin 64) (r : Fin 512) :
    VT V (ix5 b g j d r) = V (ix4 b g ⟨j.val * 512 + r.val, by omega⟩ d) := by
  pointwise [VT]

/-- A padded query against a key with the two heads side by side is the query against its own key head: the other half of
    the products are with zeros. -/
theorem dot_at (Q : FVec Ideal S2x8x16384x64 .f32) (K : FVec Ideal S2x2x16384x64 .f32) (b : Fin 2) (z : Fin 1) (n : Fin 8) (j : Fin 32) (r : Fin 512) (x : Fin 16384) :
    ∑ e : Fin 128, KK K (ix5 b z j r e) * QT Q (ix4 b n e x)
      = ∑ e : Fin 64, K (ix4 b ⟨n.val / 4, by omega⟩ ⟨j.val * 512 + r.val, by omega⟩ e) * Q (ix4 b n x e) := by
  simp only [KK_at, QT_at]
  rw [Fin.sum_univ_two_halves 64 64 (by norm_num)]
  by_cases hn : n.val < 4
  · have hz : ∀ e : Fin 64, (64 + e.val < 64) = False := fun e => eq_false (by omega)
    simp only [hn, hz, Fin.is_lt, ↓reduceDIte, mul_zero, Finset.sum_const_zero, add_zero]
    refine Finset.sum_congr rfl fun e _ => congrArg₂ (· * ·) (congrArg K ?_) rfl
    exact (ix4_inj ..).2 ⟨rfl, Fin.ext (by show e.val / 64 = n.val / 4; omega), rfl, Fin.ext (by show e.val % 64 = e.val; omega)⟩
  · have hz : ∀ e : Fin 64, (64 + e.val < 64) = False := fun e => eq_false (by omega)
    simp only [hn, hz, Fin.is_lt, ↓reduceDIte, mul_zero, Finset.sum_const_zero, zero_add]
    refine Finset.sum_congr rfl fun e _ => congrArg₂ (· * ·) (congrArg K ?_) (congrArg Q ?_)
    · exact (ix4_inj ..).2 ⟨rfl, Fin.ext (by show (64 + e.val) / 64 = n.val / 4; omega), rfl, Fin.ext (by show (64 + e.val) % 64 = e.val; omega)⟩
    · exact (ix4_inj ..).2 ⟨rfl, Fin.ext (by show 4 + (n.val - 4) = n.val; omega), rfl, Fin.ext (by show 64 + e.val - 64 = e.val; omega)⟩

/-- Which block each window is at, at every grid point. -/
theorem idx : ∀ t : Fin cfg0.N, win0_0.index t = ![t.val / 64, t.val / 8 % 8, 0, t.val % 8] ∧ win0_1.index t = ![t.val / 64, 0, 0, 0, 0]
    ∧ win0_2.index t = ![t.val / 64, t.val / 32 % 2, 0, 0, 0] ∧ win0_3.index t = ![t.val / 64, t.val / 8 % 8, 0, t.val % 8] ∧ t.val < 128 :=
  (by decide +kernel : ∀ t : Fin grid0.N, _)

/-- The number of grid points. -/
theorem tlt (t : Fin cfg0.N) : t.val < 128 := (idx t).2.2.2.2

/-- An entry of the block of queries of a grid point. -/
theorem iblk_q (c : Dev nD) (t : Fin cfg0.N) (z z' : Fin 1) (e : Fin 128) (x : Fin 2048) :
    (iblk m c 0 t : FVec Ideal S1x1x128x2048 .bf16) (ix4 z z' e x)
      = QT (m ((c : Thread nD τ).loc main_arg0)) (ix4 ⟨t.val / 64, by have := tlt t; omega⟩ ⟨t.val / 8 % 8, by omega⟩ e ⟨2048 * (t.val % 8) + x.val, by omega⟩) := by
  rw [← V_q]
  blk_ext [iblk, idx t]

/-- An entry of the block of keys of a grid point. -/
theorem iblk_k (c : Dev nD) (t : Fin cfg0.N) (z z' : Fin 1) (j : Fin 32) (r : Fin 512) (e : Fin 128) :
    (iblk m c 1 t : FVec Ideal S1x1x32x512x128 .bf16) (ix5 z z' j r e)
      = KK (m ((c : Thread nD τ).loc main_arg1)) (ix5 ⟨t.val / 64, by have := tlt t; omega⟩ 0 j r e) := by
  rw [← V_k]
  blk_ext [iblk, idx t]

/-- An entry of the block of values of a grid point. -/
theorem iblk_v (c : Dev nD) (t : Fin cfg0.N) (z z' : Fin 1) (j : Fin 32) (d : Fin 64) (r : Fin 512) :
    (iblk m c 2 t : FVec Ideal S1x1x32x64x512 .bf16) (ix5 z z' j d r)
      = VT (m ((c : Thread nD τ).loc main_arg2)) (ix5 ⟨t.val / 64, by have := tlt t; omega⟩ ⟨t.val / 32 % 2, by omega⟩ j d r) := by
  rw [← V_v]
  blk_ext [iblk, idx t]

end Cert.KernelIdeal.Att

end
-- ==== Proof.Soft.lean ====
module

public import Idealize.ShloMosaic.PureOps.Ideal
public import Idealize.ShloMosaic.Lib.Pointwise

@[expose] public section

noncomputable section

/-! Softmax over the extended reals: the weights as powers of two divided once at the end, and the weights as
exponentials of the scores less their maximum, each divided by their sum. -/

namespace Cert.Soft

open Idealize.ShloMosaic

/-- A finite sum times a nonnegative real is the sum of the products, whatever its terms. -/
theorem sum_mul_coe {ι : Type} (s : Finset ι) (f : ι → EReal) {r : ℝ} (hr : 0 ≤ r) : (∑ i ∈ s, f i) * (r : EReal) = ∑ i ∈ s, f i * (r : EReal) := by
  induction s using Finset.cons_induction with
  | empty => simp
  | cons a s ha ih =>
    rw [Finset.sum_cons, Finset.sum_cons, ← ih]
    exact EReal.right_distrib_of_nonneg_of_ne_top (EReal.coe_nonneg.mpr hr) (EReal.coe_ne_top r) _ _

/-- A finite sum of reals as extended reals. -/
theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The maximum of finitely many reals and minus infinity is a real, when there is one at all. -/
theorem fold_max_real {n : ℕ} (hn : 0 < n) (f : Fin n → ℝ) : ∃ μ : ℝ, Finset.univ.fold max (⊥ : EReal) (fun i => (f i : EReal)) = (μ : EReal) := by
  have key : ∀ s : Finset (Fin n), s.Nonempty → ∃ μ : ℝ, s.fold max (⊥ : EReal) (fun i => (f i : EReal)) = (μ : EReal) := by
    intro s hs
    induction hs using Finset.Nonempty.cons_induction with
    | singleton a => exact ⟨f a, by simp⟩
    | cons a s ha hs ih =>
      obtain ⟨μ, hμ⟩ := ih
      exact ⟨max (f a) μ, by rw [Finset.fold_cons, hμ]; exact (EReal.coe_strictMono.monotone.map_max).symm⟩
  exact key _ ⟨⟨0, hn⟩, Finset.mem_univ _⟩

/-- The entrywise maximum. -/
theorem maximumf_at {s : Shape} (a b : FVec Ideal s .f32) (j : s.Idx) : maximumf a b j = max (a j) (b j) := rfl

/-- A real over eight is its product with one eighth. -/
theorem coe_eighth (x : ℝ) : ((x / 8 : ℝ) : EReal) = (x : EReal) * ((1 / 8 : ℝ) : EReal) := by
  rw [← EReal.coe_mul, mul_one_div]

/-- The host's maximum of reals along an axis that is not empty, started from minus infinity, is a real. -/
theorem reduce_max_real {s t u : Shape} {a : Fin s.rank} (x : s.Idx → EReal) (hx : ∀ i, ∃ r : ℝ, x i = (r : EReal)) (init : u.Idx → EReal)
    (h' : s.ReducesTo [a] t) (h : s.Reduces [a] t) (hu : 0 < u.numel) (hi : init (Shape.Idx.first hu) = ⊥) (ha : 0 < s.size a) (j : t.Idx) :
    ∃ μ : ℝ, Host.reduce (FloatOps.maximumf (F := Ideal) (φ := .f32)) x init h' hu j = (μ : EReal) := by
  choose r hr using hx
  obtain ⟨μ, hμ⟩ := fold_max_real ha (fun k => r (h.lift j k))
  refine ⟨μ, ?_⟩
  rw [← hμ, show (FloatOps.maximumf (F := Ideal) (φ := .f32)) = (max : EReal → EReal → EReal) from rfl,
    Host.reduce_eq_fold_single (max : EReal → EReal → EReal) x init h' h hu j, hi]
  exact congrArg (fun f => Finset.univ.fold max (⊥ : EReal) f) (funext fun k => hr _)

/-- `2` to the score times `1 / (c log 2)` is the exponential of the score over `c`. -/
theorem exp2_scale_of {c : ℝ} (hc : c ≠ 0) (x : ℝ) : Ideal.exp2 ((x : EReal) * (((c * Real.log 2)⁻¹ : ℝ) : EReal)) = (Real.exp (x / c) : EReal) := by
  rw [← EReal.coe_mul, Ideal.exp2_coe]
  congr 1
  have h2 : Real.log 2 ≠ 0 := (Real.log_pos (by norm_num)).ne'
  show (2 : ℝ) ^ (x * (c * Real.log 2)⁻¹) = _
  rw [Real.rpow_def_of_pos (by norm_num)]
  congr 1
  field_simp

/-- `2` to the score times `1 / (8 log 2)` is the exponential of an eighth of the score. -/
theorem exp2_scale (x : ℝ) : Ideal.exp2 ((x : EReal) * (((8 * Real.log 2)⁻¹ : ℝ) : EReal)) = (Real.exp (x / 8) : EReal) :=
  exp2_scale_of (by norm_num) x

/-- The root of ninety-six is not zero. -/
theorem sqrt_ne : Real.sqrt 96 ≠ 0 := (Real.sqrt_pos.mpr (by norm_num)).ne'

/-- The two forms of attention agree: finite scores `x`, a value per key, finite or not. -/
theorem attend {n : ℕ} (hn : 0 < n) (x : Fin n → ℝ) (v : Fin n → EReal) (μ : ℝ) :
    Ideal.div (∑ s, v s * (Real.exp (x s) : EReal)) (∑ s, (Real.exp (x s) : EReal))
      = ∑ s, Ideal.div (Real.exp (x s - μ) : EReal) (∑ s', (Real.exp (x s' - μ) : EReal)) * v s := by
  have hD : 0 < ∑ s, Real.exp (x s) := Finset.sum_pos (fun _ _ => Real.exp_pos _) ⟨⟨0, hn⟩, Finset.mem_univ _⟩
  have hE : ∑ s, Real.exp (x s - μ) = (∑ s, Real.exp (x s)) * Real.exp (-μ) := by
    rw [Finset.sum_mul]; exact Finset.sum_congr rfl fun s _ => by rw [sub_eq_add_neg, Real.exp_add]
  have hE0 : ∑ s, Real.exp (x s - μ) ≠ 0 := by rw [hE]; exact (mul_pos hD (Real.exp_pos _)).ne'
  rw [← coe_sum, ← coe_sum, Ideal.div_coe hD.ne', sum_mul_coe _ _ (by positivity)]
  refine Finset.sum_congr rfl fun s _ => ?_
  rw [Ideal.div_coe hE0, mul_assoc, ← EReal.coe_mul, ← EReal.coe_mul, mul_comm (v s)]
  congr 2
  rw [hE, sub_eq_add_neg, Real.exp_add]
  have := (Real.exp_pos (-μ)).ne'
  have := hD.ne'
  field_simp

end Cert.Soft

end
-- ==== Proof.Refer.lean ====
module

public import proofs.«01_k».proof.Proof.Gen.ReferenceIdeal.Run
public import Idealize.ShloMosaic.Lib.Pointwise
public import Idealize.ShloMosaic.PureOps.Ideal
public import proofs.«01_k».proof.Proof.Soft

@[expose] public section

set_option maxRecDepth 16384

noncomputable section

/-! The reference's result, read at an index. -/

namespace Cert.ReferenceIdeal.Att

open Cert.ReferenceIdeal Cert.ReferenceIdeal.Gen
open Idealize.ShloMosaic Idealize.ShloMosaic.TcCoe

variable (Q : FVec Ideal S2x8x16384x64 .f32) (K V : FVec Ideal S2x2x16384x64 .f32)

/-- The scaled scores. -/
def SC : FVec Ideal S2x2x4x16384x16384 .f32 :=
  mulf (Host.dotGeneral dot_S2x2x4x16384x64_S2x2x16384x64_S2x2x4x16384x16384_4_3_23_2_01_01 none (shapeCast _ Q shapeCasts_S2x8x16384x64_S2x2x4x16384x64) K) (broadcastInDim S2x2x4x16384x16384 ![] bcast_S_S2x2x4x16384x16384 (constant S_ .f32 0x3E000000#32))

/-- Each query's largest score. -/
def MX : FVec Ideal S2x2x4x16384 .f32 :=
  maximumf (broadcastInDim S2x2x4x16384 ![] bcast_S_S2x2x4x16384 (constant S_ .f32 0xFF800000#32)) (Host.reduce FloatOps.maximumf (SC Q K) (constant S_ .f32 0xFF800000#32) reducesTo_S2x2x4x16384x16384_S2x2x4x16384_d4 h_S_)

/-- The exponentials of the scores less the largest. -/
def EX : FVec Ideal S2x2x4x16384x16384 .f32 :=
  Host.exp (subf (SC Q K) (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 (MX Q K))))

/-- The attention weights. -/
def SM : FVec Ideal S2x2x4x16384x16384 .f32 :=
  Host.divf (EX Q K) (broadcastInDim S2x2x4x16384x16384 ![0, 1, 2, 3, 4] bcast_S2x2x4x16384x1_S2x2x4x16384x16384_0_1_2_3_4 (broadcastInDim S2x2x4x16384x1 ![0, 1, 2, 3] bcast_S2x2x4x16384_S2x2x4x16384x1_0_1_2_3 (Host.reduceAdd (EX Q K) (constant S_ .f32 0x00000000#32) reducesTo_S2x2x4x16384x16384_S2x2x4x16384_d4 h_S_)))

/-- The reference's result. -/
def REF : FVec Ideal S2x8x64x16384 .bf16 :=
  truncf .bf16 (transpose S2x8x64x16384 [0, 1, 3, 2] (shapeCast _ (Host.dotGeneral dot_S2x2x4x16384x16384_S2x2x16384x64_S2x2x4x16384x64_4_2_23_3_01_01 none (SM Q K) V) shapeCasts_S2x2x4x16384x64_S2x8x16384x64) transposes_S2x8x16384x64_S2x8x64x16384_0_1_3_2) bitsLt_bf16_f32

/-- An entry of the scores of the reference. -/
theorem SC_at (b g : Fin 2) (h : Fin 4) (q s : Fin 16384) : SC Q K (ix5 b g h q s)
    = (∑ d : Fin 64, Q (ix4 b ⟨g.val * 4 + h.val, by omega⟩ q d) * K (ix4 b g s d)) * Ideal.ofBits .f32 0x3E000000#32 := by
  pointwise [SC]

/-- An entry of the exponentials of the reference. -/
theorem EX_at (b g : Fin 2) (h : Fin 4) (q s : Fin 16384) : EX Q K (ix5 b g h q s)
    = Ideal.exp (SC Q K (ix5 b g h q s) - MX Q K (ix4 b g h q)) := by
  pointwise [EX]

/-- An entry of the softmax of the reference. -/
theorem SM_at (b g : Fin 2) (h : Fin 4) (q s : Fin 16384) : SM Q K (ix5 b g h q s)
    = Ideal.div (EX Q K (ix5 b g h q s)) (∑ s' : Fin 16384, EX Q K (ix5 b g h q s')) := by
  pointwise [SM]

/-- An entry of the result of the reference. -/
theorem REF_at (b : Fin 2) (n : Fin 8) (d : Fin 64) (q : Fin 16384) : REF Q K V (ix4 b n d q)
    = ∑ s : Fin 16384, SM Q K (ix5 b ⟨n.val / 4, by omega⟩ ⟨n.val % 4, by omega⟩ q s) * V (ix4 b ⟨n.val / 4, by omega⟩ s d) := by
  pointwise [REF]

/-- The word of one eighth. -/
theorem ofBits_eighth : Ideal.ofBits .f32 0x3E000000#32 = ((1 / 8 : ℝ) : EReal) := by
  simp [Ideal.ofBits, Ideal.ieee, -EReal.coe_mul]; norm_num

/-- The word of minus infinity. -/
theorem ofBits_bot : Ideal.ofBits .f32 0xFF800000#32 = ⊥ := by
  simp [Ideal.ofBits, Ideal.ieee]

/-- Where every score is finite so is the largest one. -/
theorem MX_real (hs : ∀ i, ∃ r : ℝ, SC Q K i = (r : EReal)) (j : S2x2x4x16384.Idx) : ∃ μ : ℝ, MX Q K j = (μ : EReal) := by
  obtain ⟨μ, hμ⟩ := Cert.Soft.reduce_max_real (SC Q K) hs (constant (F := Ideal) S_ .f32 0xFF800000#32)
    reducesTo_S2x2x4x16384x16384_S2x2x4x16384_d4 (by decide) h_S_ ofBits_bot (by decide) j
  refine ⟨μ, ?_⟩
  unfold MX
  rw [Cert.Soft.maximumf_at, hμ]
  refine Eq.trans (congrArg (fun z => max z (μ : EReal)) (?_ : _ = (⊥ : EReal))) (max_bot_left _)
  exact ofBits_bot

/-- Where queries and keys are finite the reference is the weighted sum of the values over the sum of the weights, each weight
    the exponential of an eighth of its score. -/
theorem REF_eq (hQ : ∀ i, ∃ r : ℝ, Q i = (r : EReal)) (hK : ∀ i, ∃ r : ℝ, K i = (r : EReal))
    (b : Fin 2) (n : Fin 8) (d : Fin 64) (q : Fin 16384) : ∃ x : Fin 16384 → ℝ,
    (∀ s, (x s : EReal) = ∑ e : Fin 64, K (ix4 b ⟨n.val / 4, by omega⟩ s e) * Q (ix4 b n q e)) ∧
    REF Q K V (ix4 b n d q) = Ideal.div (∑ s : Fin 16384, V (ix4 b ⟨n.val / 4, by omega⟩ s d) * (Real.exp (x s / 8) : EReal)) (∑ s : Fin 16384, (Real.exp (x s / 8) : EReal)) := by
  choose Qr hQr using hQ
  choose Kr hKr using hK
  have hdot : ∀ (b g : Fin 2) (n : Fin 8) (q s : Fin 16384), ∑ e : Fin 64, K (ix4 b g s e) * Q (ix4 b n q e)
      = ((∑ e : Fin 64, Kr (ix4 b g s e) * Qr (ix4 b n q e) : ℝ) : EReal) := by
    intro b g n q s
    rw [Cert.Soft.coe_sum]
    exact Finset.sum_congr rfl fun e _ => by rw [EReal.coe_mul, ← hKr, ← hQr]
  have hSC : ∀ (b g : Fin 2) (h : Fin 4) (q s : Fin 16384), SC Q K (ix5 b g h q s)
      = (((∑ e : Fin 64, Kr (ix4 b g s e) * Qr (ix4 b ⟨g.val * 4 + h.val, by omega⟩ q e)) / 8 : ℝ) : EReal) := by
    intro b g h q s
    rw [SC_at, ofBits_eighth, Cert.Soft.coe_eighth (∑ e : Fin 64, _), ← hdot]
    exact congrArg (· * _) (Finset.sum_congr rfl fun e _ => mul_comm _ _)
  obtain ⟨μ, hμ⟩ := MX_real Q K (fun i => by rw [eq_ix5 i]; exact ⟨_, hSC _ _ _ _ _⟩) (ix4 b ⟨n.val / 4, by omega⟩ ⟨n.val % 4, by omega⟩ q)
  refine ⟨fun s => ∑ e : Fin 64, Kr (ix4 b ⟨n.val / 4, by omega⟩ s e) * Qr (ix4 b n q e), fun s => (hdot _ _ _ _ _).symm, ?_⟩
  have hn : (⟨(⟨n.val / 4, by omega⟩ : Fin 2).val * 4 + (⟨n.val % 4, by omega⟩ : Fin 4).val, by show n.val / 4 * 4 + n.val % 4 < 8; omega⟩ : Fin 8) = n :=
    Fin.ext (by show n.val / 4 * 4 + n.val % 4 = n.val; omega)
  have hEX : ∀ s, EX Q K (ix5 b ⟨n.val / 4, by omega⟩ ⟨n.val % 4, by omega⟩ q s)
      = (Real.exp ((∑ e : Fin 64, Kr (ix4 b ⟨n.val / 4, by omega⟩ s e) * Qr (ix4 b n q e)) / 8 - μ) : EReal) := by
    intro s
    rw [EX_at, hμ, hSC, hn, ← EReal.coe_sub, Ideal.exp_coe]
  have hsum : ∑ s, EX Q K (ix5 b ⟨n.val / 4, by omega⟩ ⟨n.val % 4, by omega⟩ q s)
      = ∑ s, (Real.exp ((∑ e : Fin 64, Kr (ix4 b ⟨n.val / 4, by omega⟩ s e) * Qr (ix4 b n q e)) / 8 - μ) : EReal) := Finset.sum_congr rfl fun s _ => hEX s
  rw [REF_at, Cert.Soft.attend (by norm_num) _ _ μ]
  refine Finset.sum_congr rfl fun s _ => ?_
  rw [SM_at, hEX, hsum]

end Cert.ReferenceIdeal.Att

end
-- ==== Proof.Value.lean ====
module

public import proofs.«01_k».proof.Proof.Pure
public import proofs.«01_k».proof.Proof.Host
public import proofs.«01_k».proof.Proof.Refer

@[expose] public section

set_option maxRecDepth 16384

noncomputable section

/-! The kernel's result array is the reference's term of its arguments. -/

namespace Cert.KernelIdeal.Att

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result, of the kernel's arguments. -/
abbrev REF (Q : FVec Ideal S2x8x16384x64 .f32) (K V : FVec Ideal S2x2x16384x64 .f32) : FVec Ideal S2x8x64x16384 .bf16 :=
  Cert.ReferenceIdeal.Att.REF Q K V

/-- Every query and every key is finite. -/
def Finite (Q : FVec Ideal S2x8x16384x64 .f32) (K : FVec Ideal S2x2x16384x64 .f32) : Prop :=
  (∀ i, ∃ r : ℝ, Q i = (r : EReal)) ∧ (∀ i, ∃ r : ℝ, K i = (r : EReal))

/-- What a grid point stores at an index of its block is the reference's result at the array index it is placed at. -/
theorem point (c : Dev nD) (h : Finite (m ((c : Thread nD τ).loc main_arg0)) (m ((c : Thread nD τ).loc main_arg1)))
    (t : Fin cfg0.N) (z z' : Fin 1) (d : Fin 64) (x : Fin 2048) :
    outVal (F := Ideal) (iblk m c 0 t) (iblk m c 1 t) (iblk m c 2 t) (ix4 z z' d x)
      = REF (m ((c : Thread nD τ).loc main_arg0)) (m ((c : Thread nD τ).loc main_arg1)) (m ((c : Thread nD τ).loc main_arg2))
          (ix4 ⟨t.val / 64, by have := tlt t; omega⟩ ⟨t.val / 8 % 8, by omega⟩ d ⟨2048 * (t.val % 8) + x.val, by omega⟩) := by
  obtain ⟨y, hy, hR⟩ := Cert.ReferenceIdeal.Att.REF_eq (m ((c : Thread nD τ).loc main_arg0)) (m ((c : Thread nD τ).loc main_arg1)) (m ((c : Thread nD τ).loc main_arg2)) h.1 h.2
    ⟨t.val / 64, by have := tlt t; omega⟩ ⟨t.val / 8 % 8, by omega⟩ d ⟨2048 * (t.val % 8) + x.val, by omega⟩
  have hs : ∀ s : Fin 16384, (⟨(⟨s.val / 512, by omega⟩ : Fin 32).val * 512 + (⟨s.val % 512, by omega⟩ : Fin 512).val, by show s.val / 512 * 512 + s.val % 512 < 16384; omega⟩ : Fin 16384) = s :=
    fun s => Fin.ext (by show s.val / 512 * 512 + s.val % 512 = s.val; omega)
  have hg : (⟨t.val / 32 % 2, by omega⟩ : Fin 2) = ⟨t.val / 8 % 8 / 4, by omega⟩ := Fin.ext (by show t.val / 32 % 2 = t.val / 8 % 8 / 4; omega)
  have hw : ∀ s : Fin 16384, wt (iblk m c 0 t) (iblk m c 1 t) ⟨s.val / 512, by omega⟩ ⟨s.val % 512, by omega⟩ x = (Real.exp (y s / 8) : EReal) := by
    intro s
    rw [← Cert.Soft.exp2_scale, hy]
    refine (wt_eq _ _ _ _ _ _ _ (fun e => iblk_k m c t 0 0 _ _ e) (fun e => iblk_q m c t 0 0 e x)).trans ?_
    rw [dot_at, hs]
  have hv : ∀ s : Fin 16384, (iblk m c 2 t : FVec Ideal S1x1x32x64x512 .bf16) (ix5 0 0 ⟨s.val / 512, by omega⟩ d ⟨s.val % 512, by omega⟩)
      = (m ((c : Thread nD τ).loc main_arg2) : FVec Ideal S2x2x16384x64 .f32) (ix4 ⟨t.val / 64, by have := tlt t; omega⟩ ⟨t.val / 8 % 8 / 4, by omega⟩ s d) := by
    intro s
    rw [iblk_v, VT_at, hs, hg]
  refine (outVal_at _ _ _ z z' d x).trans (Eq.trans ?_ hR.symm)
  exact congrArg₂ Ideal.div (Finset.sum_congr rfl fun s _ => congrArg₂ (· * ·) (hv s) (hw s)) (Finset.sum_congr rfl fun s _ => hw s)

/-- The result array after the run is the reference's term of the arguments. -/
theorem final (c : Dev nD) (h : Finite (m ((c : Thread nD τ).loc main_arg0)) (m ((c : Thread nD τ).loc main_arg1))) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  idx_vars y
  refine (point m c h t _ _ _ _).trans ?_
  refine congrArg (REF _ _ _) ?_
  blk_ext [idx t]

/-- The kernel's run: the result at the reference's term, the arguments as they were. -/
theorem run_value (ρ : Dev nD → PrngReg) (h : ∀ c : Dev nD, Finite (m ((c : Thread nD τ).loc main_arg0)) (m ((c : Thread nD τ).loc main_arg1))) :
    θ_run defs (onTc (τ := τ) (main (F := Ideal))) ⟨m, fun _ => 0, ρ⟩ fun r => ∀ c : Dev nD,
      r.2.mem ((c : Thread nD τ).loc main_v14)
          = REF (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r e c => ⟨((e c).1 3).trans (final m c (h c)),
      ((e c).2 main_arg0 (Pipeline.mem_restRefs_of main_arg0 (by decide) (by decide))).trans (V_main_arg0 m c),
      ((e c).2 main_arg1 (Pipeline.mem_restRefs_of main_arg1 (by decide) (by decide))).trans (V_main_arg1 m c),
      ((e c).2 main_arg2 (Pipeline.mem_restRefs_of main_arg2 (by decide) (by decide))).trans (V_main_arg2 m c)⟩)
    (run_main m ρ)

end Cert.KernelIdeal.Att

end
-- ==== Proof.MlaPre.lean ====
module

public import proofs.«01_k».proof.Proof.Pre
public import Idealize.ShloMosaic.Lib.Pointwise

@[expose] public section

set_option maxRecDepth 16384

noncomputable section

/-! The precondition: every query and every key is a real number. -/

namespace Cert.Pre_finite_qk2.Att

open Cert.Pre_finite_qk2
open Idealize.ShloMosaic Idealize.ShloMosaic.TcCoe

/-- The side conditions of the precondition's operations. -/
theorem facts : Cert.Pre_finite_qk2.Facts := ⟨by decide +kernel, by decide +kernel⟩

variable (Q K : FVec Ideal S2x8x16384x96 .f32) (V : FVec Ideal S2x8x16384x64 .f32)

/-- The precondition makes each query a real. -/
theorem finite_q (h : @fn facts Ideal _ Q K V = fun _ => 1#1) (i : S2x8x16384x96.Idx) : ∃ r : ℝ, Q i = (r : EReal) := by
  idx_vars i
  have e := congrFun h (ix4 i0 ⟨i1.val, by omega⟩ i2 i3)
  pointwise [fn] at e
  exact Cert.Pre_finite_qk.Att.real_of_cmp _ e

/-- The precondition makes each key a real. -/
theorem finite_k (h : @fn facts Ideal _ Q K V = fun _ => 1#1) (i : S2x8x16384x96.Idx) : ∃ r : ℝ, K i = (r : EReal) := by
  idx_vars i
  have e := congrFun h (ix4 i0 ⟨8 + i1.val, by omega⟩ i2 i3)
  pointwise [fn] at e
  exact Cert.Pre_finite_qk.Att.real_of_cmp _ e

end Cert.Pre_finite_qk2.Att

end
-- ==== Proof.MlaTrip.lean ====
module

public import proofs.«01_k».proof.Proof.Gen.Kernel2Ideal.Loops
public import proofs.«01_k».proof.Proof.Strip

@[expose] public section

set_option maxRecDepth 16384

noncomputable section

/-! One trip of the body's loop: eight blocks of 512 keys, each taken strip by strip. -/

namespace Cert.Kernel2Ideal.Att

open Cert.Kernel2Ideal.Gen Cert.Strip
open Idealize.ShloMosaic Idealize.ShloMosaic.TcCoe

variable {F : FTy → Type} [FloatOps F] [Named F]

/-- A strip of queries lies inside the block of queries. -/
theorem inb_q (c : Fin 8) : ∀ a : Fin 4, (![0, 0, 0, 256 * c.val] : Fin 4 → ℕ) a + S1x1x128x256.size a ≤ S1x1x128x2048.size a := by
  revert c; decide +kernel

section
variable (arg3 : Memref sig .tc .vmem S1x1x128x2048 .bf16) (arg4 : Memref sig .tc .vmem S1x1x32x512x128 .bf16)
  (arg5 : Memref sig .tc .vmem S1x1x32x64x512 .bf16)
  (X3 : BufTy.Contents (Elt F) arg3.view.ty) (X4 : BufTy.Contents (Elt F) arg4.view.ty) (X5 : BufTy.Contents (Elt F) arg5.view.ty)

/-- The queries of strip `c`, as the body reads them. -/
abbrev qRd (c : Fin 8) : Vec F S1x1x128x256 .bf16 :=
  View.readAt (Elt F) arg3.view (Rect.unit (s := S1x1x128x2048) ![0, 0, 0, 256 * c.val] S1x1x128x256.size (inb_q c)).toLoadRect X3

/-- The keys trip `k` reads at its block `u`, one block ahead of the values. -/
abbrev kRd (k : Fin k0_t1_loop.trips) (u : Fin 8) : Vec F S1x1x1x512x128 .bf16 :=
  View.readAt (Elt F) arg4.view (Rect.unit (s := S1x1x32x512x128) (k0_off1 k (BitVec.ofNat 32 u.val)) S1x1x1x512x128.size (k0_off1_inb k u)).toLoadRect X4

/-- The values trip `k` reads at its block `u`. -/
abbrev vRd (k : Fin k0_t1_loop.trips) (u : Fin 8) : Vec F S1x1x1x64x512 .bf16 :=
  View.readAt (Elt F) arg5.view (Rect.unit (s := S1x1x32x64x512) (k0_off2 k (BitVec.ofNat 32 u.val)) S1x1x1x64x512.size (k0_off2_inb k u)).toLoadRect X5

/-- The weights trip `k` stores: of its even blocks to one buffer, of its odd blocks to the other. -/
abbrev pEven (k : Fin k0_t1_loop.trips) (n : ℕ) : FVec F S512x256 .bf16 := k0_pay6 (kRd arg4 X4 k (sc (2 * (n / 8)))) (qRd arg3 X3 (sc n))
/-- The weights of the odd blocks of a trip. -/
abbrev pOdd (k : Fin k0_t1_loop.trips) (n : ℕ) : FVec F S512x256 .bf16 := k0_pay6 (kRd arg4 X4 k (sc (2 * (n / 8) + 1))) (qRd arg3 X3 (sc n))

/-- The weights the `n`-th update of the accumulator reads: the block's that was stored a block earlier. -/
abbrev pRd (arg7 arg8 : Memref sig .tc .vmem S512x2048 .bf16) (f7 : BufTy.Contents (Elt F) arg7.view.ty) (k : Fin k0_t1_loop.trips) (n : ℕ) : FVec F S512x256 .bf16 :=
  bif Nat.blt n 8 then View.readAt (Elt F) arg7.view (rect 512 (sc n)).toLoadRect f7
  else bif Nat.beq (n / 8 % 2) 1 then arg8.view.readCov (pieces (Val := Elt F) (e := .bf16) (r := 512) (pEven arg3 arg4 X3 X4 k) (8 * ((n / 8 + 1) / 2))) (rect 512 (sc n)).toLoadRect
  else arg7.view.readCov (pieces (Val := Elt F) (e := .bf16) (r := 512) (pOdd arg3 arg4 X3 X4 k) (8 * (n / 8 / 2))) (rect 512 (sc n)).toLoadRect

end

section
variable (𝒱 : Variants) (c : Dev nD) (bd : Option 𝒱.V) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole) (v142 : FVec F S512x128 .bf16)
  (X3 : BufTy.Contents (Elt F) arg3.view.ty) (X4 : BufTy.Contents (Elt F) arg4.view.ty) (X5 : BufTy.Contents (Elt F) arg5.view.ty)
  (k : Fin k0_t1_loop.trips)
  (f7 : BufTy.Contents (Elt F) arg7.view.ty) (f8 : BufTy.Contents (Elt F) arg8.view.ty) (f9 : BufTy.Contents (Elt F) arg9.view.ty) (f10 : BufTy.Contents (Elt F) arg10.view.ty)

/-- What a trip writes to the first buffer of weights. -/
theorem trip_p0 : (trip_k0_t1 (F := F) 𝒱 c bd i arg3 harg3 arg4 harg4 arg5 harg5 arg6 harg6 arg7 harg7 arg8 harg8 arg9 harg9 arg10 harg10 v142 X3 X4 X5 k).1 f7 f8 f9 f10
    = pieces (Val := Elt F) (e := .bf16) (r := 512) (pOdd arg3 arg4 X3 X4 k) 32 := by sl_kernel_rfl

/-- What a trip writes to the second buffer of weights. -/
theorem trip_p1 : (trip_k0_t1 (F := F) 𝒱 c bd i arg3 harg3 arg4 harg4 arg5 harg5 arg6 harg6 arg7 harg7 arg8 harg8 arg9 harg9 arg10 harg10 v142 X3 X4 X5 k).2.1 f7 f8 f9 f10
    = pieces (Val := Elt F) (e := .bf16) (r := 512) (pEven arg3 arg4 X3 X4 k) 32 := by sl_kernel_rfl

/-- What a trip writes to the row sums. -/
theorem trip_l : (trip_k0_t1 (F := F) 𝒱 c bd i arg3 harg3 arg4 harg4 arg5 harg5 arg6 harg6 arg7 harg7 arg8 harg8 arg9 harg9 arg10 harg10 v142 X3 X4 X5 k).2.2.1 f7 f8 f9 f10
    = carried (Val := Elt F) (e := .f32) (r := 8) arg9.view (fun n l => k0_pay5 (kRd arg4 X4 k (sc (n / 8))) (qRd arg3 X3 (sc n)) l)
        (fun s => View.readAt (Elt F) arg9.view (rect 8 s).toLoadRect f9) 64 := by sl_kernel_rfl

/-- What a trip writes to the accumulator. -/
theorem trip_acc : (trip_k0_t1 (F := F) 𝒱 c bd i arg3 harg3 arg4 harg4 arg5 harg5 arg6 harg6 arg7 harg7 arg8 harg8 arg9 harg9 arg10 harg10 v142 X3 X4 X5 k).2.2.2.1 f7 f8 f9 f10
    = carried (Val := Elt F) (e := .f32) (r := 64) arg10.view (fun n a => k0_pay2 a (vRd arg5 X5 k (sc (n / 8))) (pRd arg3 arg4 X3 X4 arg7 arg8 f7 k n))
        (fun s => View.readAt (Elt F) arg10.view (rect 64 s).toLoadRect f10) 64 := by sl_kernel_rfl

end

end Cert.Kernel2Ideal.Att

end
-- ==== Proof.MlaState.lean ====
module

public import proofs.«01_k».proof.Proof.MlaTrip

@[expose] public section

set_option maxRecDepth 16384

noncomputable section

/-! The state the body builds, block of keys by block of keys, as a function of the input blocks; and the loop keeping it. -/

namespace Cert.Kernel2Ideal.Att

open Cert.Kernel2Ideal.Gen Cert.Strip
open Idealize.ShloMosaic Idealize.ShloMosaic.TcCoe

variable {F : FTy → Type} [FloatOps F] [Named F]

/-- A block of keys lies inside the array of keys. -/
theorem inb_k (j : Fin 32) : ∀ a : Fin 5, (![0, 0, j.val, 0, 0] : Fin 5 → ℕ) a + S1x1x1x512x128.size a ≤ S1x1x32x512x128.size a := by
  revert j; decide +kernel

/-- A block of values lies inside the array of values. -/
theorem inb_v (j : Fin 32) : ∀ a : Fin 5, (![0, 0, j.val, 0, 0] : Fin 5 → ℕ) a + S1x1x1x64x512.size a ≤ S1x1x32x64x512.size a := by
  revert j; decide +kernel

/-- The `j`-th block of keys or values. -/
def blk (j : ℕ) : Fin 32 := ⟨j % 32, Nat.mod_lt _ (by decide)⟩

section
variable (x0 : Vec F S1x1x128x2048 .bf16) (x1 : Vec F S1x1x32x512x128 .bf16) (x2 : Vec F S1x1x32x64x512 .bf16)

/-- A strip of queries. -/
def qB (c : Fin 8) : Vec F S1x1x128x256 .bf16 := VecWindow.window (s := S1x1x128x2048) x0 ![0, 0, 0, 256 * c.val] S1x1x128x256.size (inb_q c)
/-- A block of keys. -/
def kF (j : Fin 32) : Vec F S1x1x1x512x128 .bf16 := VecWindow.window (s := S1x1x32x512x128) x1 ![0, 0, j.val, 0, 0] S1x1x1x512x128.size (inb_k j)
/-- A block of values. -/
def vF (j : Fin 32) : Vec F S1x1x1x64x512 .bf16 := VecWindow.window (s := S1x1x32x64x512) x2 ![0, 0, j.val, 0, 0] S1x1x1x64x512.size (inb_v j)
/-- A block of keys, counted modulo 32. -/
def kB (j : ℕ) : Vec F S1x1x1x512x128 .bf16 := kF x1 (blk j)
/-- A block of values, counted modulo 32. -/
def vB (j : ℕ) : Vec F S1x1x1x64x512 .bf16 := vF x2 (blk j)

/-- The weights of block `j` for the queries of strip `c`. -/
def pS (c : Fin 8) (j : ℕ) : FVec F S512x256 .bf16 := k0_pay6 (kB x1 j) (qB x0 c)

/-- Strip `c` of the weights' sums, over the first `j` blocks. -/
def lS (c : Fin 8) : ℕ → FVec F S8x256 .f32
  | 0 => win (r := 8) c k0_pay302
  | j + 1 => k0_pay5 (kB x1 j) (qB x0 c) (lS c j)

/-- Strip `c` of the weighted sums of the values, over the first `j` blocks. -/
def aS (c : Fin 8) : ℕ → FVec F S64x256 .f32
  | 0 => win (r := 64) c k0_pay303
  | j + 1 => k0_pay2 (aS c j) (vB x2 j) (pS x0 x1 c j)
end

/-- Where a trip reads its keys: one block ahead. -/
theorem off1_eq : ∀ (k : Fin k0_t1_loop.trips) (u : Fin 8), k0_off1 k (BitVec.ofNat 32 u.val) = ![0, 0, (blk (8 * k.val + u.val + 1)).val, 0, 0] := by
  decide +kernel

/-- Where a trip reads its values. -/
theorem off2_eq : ∀ (k : Fin k0_t1_loop.trips) (u : Fin 8), k0_off2 k (BitVec.ofNat 32 u.val) = ![0, 0, (blk (8 * k.val + u.val)).val, 0, 0] := by
  decide +kernel

section
variable (arg3 : Memref sig .tc .vmem S1x1x128x2048 .bf16) (harg3 : arg3.IsWhole) (arg4 : Memref sig .tc .vmem S1x1x32x512x128 .bf16) (harg4 : arg4.IsWhole)
  (arg5 : Memref sig .tc .vmem S1x1x32x64x512 .bf16) (harg5 : arg5.IsWhole)
  (x0 : Vec F S1x1x128x2048 .bf16) (x1 : Vec F S1x1x32x512x128 .bf16) (x2 : Vec F S1x1x32x64x512 .bf16)

/-- What a trip reads as queries. -/
theorem qRd_eq (c : Fin 8) : qRd (F := F) arg3 (harg3.unread x0) c = qB x0 c := by
  unfold qRd qB
  rw [View.readAt_unit arg3.view _ _ rfl (inb_q c), harg3.read_unread]

/-- What a trip reads as keys. -/
theorem kRd_eq (k : Fin k0_t1_loop.trips) (u : Fin 8) : kRd (F := F) arg4 (harg4.unread x1) k u = kB x1 (8 * k.val + u.val + 1) := by
  unfold kRd kB kF
  rw [View.readAt_unit arg4.view _ _ (off1_eq k u) (inb_k _), harg4.read_unread]

/-- What a trip reads as values. -/
theorem vRd_eq (k : Fin k0_t1_loop.trips) (u : Fin 8) : vRd (F := F) arg5 (harg5.unread x2) k u = vB x2 (8 * k.val + u.val) := by
  unfold vRd vB vF
  rw [View.readAt_unit arg5.view _ _ (off2_eq k u) (inb_v _), harg5.read_unread]

/-- The strip of a store counted in rounds of eight. -/
theorem sc_add (t : ℕ) (c : Fin 8) : sc (8 * t + c.val) = c := Fin.ext (by have := c.isLt; simp only [sc]; omega)
/-- The round of a store counted in rounds of eight. -/
theorem div_add (t : ℕ) (c : Fin 8) : (8 * t + c.val) / 8 = t := by have := c.isLt; omega

/-- The weights of the even blocks of a trip. -/
theorem pEven_eq (k : Fin k0_t1_loop.trips) (t : ℕ) (ht : t < 4) (c : Fin 8) :
    pEven (F := F) arg3 arg4 (harg3.unread x0) (harg4.unread x1) k (8 * t + c.val) = pS x0 x1 c (8 * k.val + 2 * t + 1) := by
  unfold pEven pS
  rw [qRd_eq, kRd_eq, sc_add, div_add, show 8 * k.val + (sc (2 * t)).val + 1 = 8 * k.val + 2 * t + 1 by simp only [sc]; omega]

/-- The weights of the odd blocks of a trip. -/
theorem pOdd_eq (k : Fin k0_t1_loop.trips) (t : ℕ) (ht : t < 4) (c : Fin 8) :
    pOdd (F := F) arg3 arg4 (harg3.unread x0) (harg4.unread x1) k (8 * t + c.val) = pS x0 x1 c (8 * k.val + 2 * t + 2) := by
  unfold pOdd pS
  rw [qRd_eq, kRd_eq, sc_add, div_add, show 8 * k.val + (sc (2 * t + 1)).val + 1 = 8 * k.val + 2 * t + 2 by simp only [sc]; omega]

/-- The weights an update reads are those of the block whose values it reads. -/
theorem pRd_eq (arg7 arg8 : Memref sig .tc .vmem S512x2048 .bf16) (f7 : BufTy.Contents (Elt F) arg7.view.ty) (k : Fin k0_t1_loop.trips)
    (h7 : ∀ c, win (r := 512) c (arg7.view.read (Elt F) f7) = pS x0 x1 c (8 * k.val)) (t : ℕ) (ht : t < 8) (c : Fin 8) :
    pRd (F := F) arg3 arg4 (harg3.unread x0) (harg4.unread x1) arg7 arg8 f7 k (8 * t + c.val) = pS x0 x1 c (8 * k.val + t) := by
  have hc := c.isLt
  unfold pRd
  rw [sc_add, div_add]
  by_cases h0 : t = 0
  · subst h0
    rw [show Nat.blt (8 * 0 + c.val) 8 = true from Nat.ble_eq_true_of_le (by omega)]
    exact h7 c
  · rw [show Nat.blt (8 * t + c.val) 8 = false from Bool.eq_false_iff.mpr fun e => absurd (Nat.le_of_ble_eq_true e) (by omega)]
    by_cases h1 : t % 2 = 1
    · rw [show Nat.beq (t % 2) 1 = true by rw [h1]; rfl]
      obtain ⟨s, rfl⟩ : ∃ s, t = 2 * s + 1 := ⟨t / 2, by omega⟩
      have := win_rounds (Val := Elt F) (e := .bf16) (r := 512) arg8.view arg8.view.junk (pEven (F := F) arg3 arg4 (harg3.unread x0) (harg4.unread x1) k) c s
      rw [pEven_eq _ _ _ _ _ _ _ _ (by omega)] at this
      rw [show (2 * s + 1 + 1) / 2 = s + 1 by omega]
      exact this
    · rw [show Nat.beq (t % 2) 1 = false from Bool.eq_false_iff.mpr fun e => h1 (Nat.eq_of_beq_eq_true e)]
      obtain ⟨s, rfl⟩ : ∃ s, t = 2 * (s + 1) := ⟨t / 2 - 1, by omega⟩
      have := win_rounds (Val := Elt F) (e := .bf16) (r := 512) arg7.view arg7.view.junk (pOdd (F := F) arg3 arg4 (harg3.unread x0) (harg4.unread x1) k) c s
      rw [pOdd_eq _ _ _ _ _ _ _ _ (by omega)] at this
      rw [show 2 * (s + 1) / 2 = s + 1 by omega]
      exact this

end

/-- A buffer's strips after a trip: each stepped eight times. -/
theorem carry_steps {α : Type} {r : ℕ} {x : Fin 8 → (Str r).Idx → α} {g : ℕ → ((Str r).Idx → α) → (Str r).Idx → α}
    (S : Fin 8 → ℕ → (Str r).Idx → α) (b N : ℕ) (hx : ∀ c, x c = S c b)
    (hg : ∀ t < N, ∀ c : Fin 8, g (8 * t + c.val) (S c (b + t)) = S c (b + t + 1)) (t : ℕ) (ht : t < N) (c : Fin 8) :
    carry g x (8 * t + c.val) = S c (b + t + 1) := by
  induction t with
  | zero =>
    have := hg 0 ht c
    simp only [Nat.mul_zero, Nat.zero_add, Nat.add_zero] at this ⊢
    rw [carry_zero, hx, this]
  | succ t ih => rw [carry_succ, ih (by omega)]; exact hg (t + 1) ht c

section
variable (𝒱 : Variants) (c : Dev nD) (bd : Option 𝒱.V) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole) (v142 : FVec F S512x128 .bf16)

  (x0 : Vec F S1x1x128x2048 .bf16) (x1 : Vec F S1x1x32x512x128 .bf16) (x2 : Vec F S1x1x32x64x512 .bf16)
  (G7 : BufTy.Contents (Elt F) arg7.view.ty) (G8 : BufTy.Contents (Elt F) arg8.view.ty) (G9 : BufTy.Contents (Elt F) arg9.view.ty) (G10 : BufTy.Contents (Elt F) arg10.view.ty)

/-- The stores of the loop's first `k` trips, buffer by buffer. -/
abbrev pbL (k : ℕ) := pb_k0_t1 (F := F) 𝒱 c bd i arg3 harg3 arg4 harg4 arg5 harg5 arg6 harg6 arg7 harg7 arg8 harg8 arg9 harg9 arg10 harg10 v142 (harg3.unread x0) (harg4.unread x1) (harg5.unread x2) G7 G8 G9 G10 k

/-- The loop keeps the state: before trip `k` the weights of block `8k` are stored, the sums hold `8k + 1` blocks and the accumulator `8k`. -/
theorem loop_state
    (h7 : ∀ s, win (r := 512) s (arg7.view.read (Elt F) G7) = pS x0 x1 s 0)
    (h9 : ∀ s, win (r := 8) s (arg9.view.read (Elt F) G9) = lS x0 x1 s 1)
    (h10 : ∀ s, win (r := 64) s (arg10.view.read (Elt F) G10) = aS x0 x1 x2 s 0) (k : ℕ) (hk : k ≤ k0_t1_loop.trips) :
    (∀ s, win (r := 512) s (arg7.view.read (Elt F) (arg7.view.writes (Elt F) G7 (pbL 𝒱 c bd i arg3 harg3 arg4 harg4 arg5 harg5 arg6 harg6 arg7 harg7 arg8 harg8 arg9 harg9 arg10 harg10 v142 x0 x1 x2 G7 G8 G9 G10 k).1)) = pS x0 x1 s (8 * k))
    ∧ (∀ s, win (r := 8) s (arg9.view.read (Elt F) (arg9.view.writes (Elt F) G9 (pbL 𝒱 c bd i arg3 harg3 arg4 harg4 arg5 harg5 arg6 harg6 arg7 harg7 arg8 harg8 arg9 harg9 arg10 harg10 v142 x0 x1 x2 G7 G8 G9 G10 k).2.2.1)) = lS x0 x1 s (8 * k + 1))
    ∧ (∀ s, win (r := 64) s (arg10.view.read (Elt F) (arg10.view.writes (Elt F) G10 (pbL 𝒱 c bd i arg3 harg3 arg4 harg4 arg5 harg5 arg6 harg6 arg7 harg7 arg8 harg8 arg9 harg9 arg10 harg10 v142 x0 x1 x2 G7 G8 G9 G10 k).2.2.2)) = aS x0 x1 x2 s (8 * k)) := by
  induction k with
  | zero => exact ⟨h7, h9, h10⟩
  | succ k ih =>
    obtain ⟨i7, i9, i10⟩ := ih (by omega)
    have hs := pb_k0_t1_succ (F := F) 𝒱 c bd i arg3 harg3 arg4 harg4 arg5 harg5 arg6 harg6 arg7 harg7 arg8 harg8 arg9 harg9 arg10 harg10 v142 (harg3.unread x0) (harg4.unread x1) (harg5.unread x2) G7 G8 G9 G10 ⟨k, by omega⟩
    unfold pbL at *
    dsimp only [tripL_k0_t1] at hs
    rw [hs]
    refine ⟨fun s => ?_, fun s => ?_, fun s => ?_⟩
    · rw [View.writes_append, trip_p0, win_rounds (Val := Elt F) (e := .bf16) (r := 512) _ _ _ s 3, pOdd_eq _ _ _ _ _ _ _ _ (by omega)]
      exact congrArg _ (show 8 * k + 2 * 3 + 2 = 8 * (k + 1) by omega)
    · rw [View.writes_append, trip_l, carried_eq, win_rounds (Val := Elt F) (e := .f32) (r := 8) _ _ _ s 7]
      refine (carry_steps (lS x0 x1) (8 * k + 1) 8 (fun s => i9 s) (fun t ht s => ?_) 7 (by omega) s).trans rfl
      beta_reduce
      rw [sc_add, div_add, qRd_eq, kRd_eq, show 8 * k + (sc t).val + 1 = 8 * k + 1 + t by simp only [sc]; omega]
      rfl
    · rw [View.writes_append, trip_acc, carried_eq, win_rounds (Val := Elt F) (e := .f32) (r := 64) _ _ _ s 7]
      refine (carry_steps (aS x0 x1 x2) (8 * k) 8 (fun s => i10 s) (fun t ht s => ?_) 7 (by omega) s).trans rfl
      beta_reduce
      rw [pRd_eq arg3 harg3 arg4 harg4 x0 x1 arg7 arg8 _ ⟨k, by omega⟩ i7 t ht, div_add, vRd_eq, show 8 * k + (sc t).val = 8 * k + t by simp only [sc]; omega]
      rfl

end

end Cert.Kernel2Ideal.Att

end
-- ==== Proof.MlaRun.lean ====
module

public import proofs.«01_k».proof.Proof.Gen.Kernel2Ideal.Frame.Runs

/-! The attention body, run once: what it stores, over any float values. -/

@[expose] public section

set_option maxRecDepth 16384

noncomputable section

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option maxHeartbeats 1600000 in
/-- The attention body run once, over any float values: a list of pieces written to the output block, together
    with the proof that the body, started on whole buffers (the three input blocks at `x0`, `x1`, `x2`, the output
    block and the four scratch buffers at anything), ends with the inputs unchanged, the scratch buffers at some
    contents and the output block holding those pieces. -/
noncomputable def kernelRun (c : Dev nD) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole)
    (x0 : Vec F S1x1x128x2048 .bf16) (x1 : Vec F S1x1x32x512x128 .bf16) (x2 : Vec F S1x1x32x64x512 .bf16) :
    { L3 : BufTy.Contents (Elt F) arg7.view.ty → BufTy.Contents (Elt F) arg8.view.ty → BufTy.Contents (Elt F) arg9.view.ty → BufTy.Contents (Elt F) arg10.view.ty → List (View.Piece (Elt F) S1x1x64x2048 .bf16) //
      ∀ (E : Set ℕ) (K : PUnit → sProp (MT nD τ sig Unit (Elt F) ℕ (UR sig nD τ) ℕ)) (g7 : BufTy.Contents (Elt F) arg7.view.ty) (g8 : BufTy.Contents (Elt F) arg8.view.ty) (g9 : BufTy.Contents (Elt F) arg9.view.ty) (g10 : BufTy.Contents (Elt F) arg10.view.ty),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f (L3 g7 g8 g9 g10)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attention_bounded i arg3 harg3 arg4 harg4 arg5 harg5 arg6 harg6 arg7 harg7 arg8 harg8 arg9 harg9 arg10 harg10) K } := by
  refine ⟨?_, fun E K fs0 fs1 fs2 fs3 => ?run⟩
  case run =>
    simp only [cc0_attention_bounded_eq_skeleton]; unfold cc0_attention_bounded_skel
    simp only [k0_part126_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton]
    unfold owns
    iintro ⟨⟨%f0, %hf0, H0⟩, ⟨%f1, %hf1, H1⟩, ⟨%f2, %hf2, H2⟩, ⟨%d3, %f3, -, H3⟩, HS0, HS1, HS2, HS3, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel2Ideal.Att

end
-- ==== Proof.MlaRoot.lean ====
module

public import proofs.«01_k».proof.Proof.MlaState
public import proofs.«01_k».proof.Proof.MlaRun

@[expose] public section

set_option maxRecDepth 16384

noncomputable section

/-! The whole body: the first block's weights, the loop, the last eight blocks, and the quotient it stores. -/

namespace Cert.Kernel2Ideal.Att

open Cert.Kernel2Ideal.Gen Cert.Strip
open Idealize.ShloMosaic Idealize.ShloMosaic.TcCoe

variable {F : FTy → Type} [FloatOps F] [Named F]

section
variable (c : Dev nD) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole)
  (x0 : Vec F S1x1x128x2048 .bf16) (x1 : Vec F S1x1x32x512x128 .bf16) (x2 : Vec F S1x1x32x64x512 .bf16)
  (g7 : BufTy.Contents (Elt F) arg7.view.ty) (g8 : BufTy.Contents (Elt F) arg8.view.ty) (g9 : BufTy.Contents (Elt F) arg9.view.ty) (g10 : BufTy.Contents (Elt F) arg10.view.ty)

/-- Block `j` of the keys or the values, as the body reads it outside the loop. -/
abbrev kAt (X4 : BufTy.Contents (Elt F) arg4.view.ty) (j : Fin 32) : Vec F S1x1x1x512x128 .bf16 :=
  View.readAt (Elt F) arg4.view (Rect.unit (s := S1x1x32x512x128) ![0, 0, j.val, 0, 0] S1x1x1x512x128.size (inb_k j)).toLoadRect X4
/-- The block of values read in the unrolled part. -/
abbrev vAt (X5 : BufTy.Contents (Elt F) arg5.view.ty) (j : Fin 32) : Vec F S1x1x1x64x512 .bf16 :=
  View.readAt (Elt F) arg5.view (Rect.unit (s := S1x1x32x64x512) ![0, 0, j.val, 0, 0] S1x1x1x64x512.size (inb_v j)).toLoadRect X5

/-- The weights of block `j (n / 8)` for the strip of the `n`-th store. -/
abbrev pAt (j : ℕ → ℕ) (n : ℕ) : FVec F S512x256 .bf16 := k0_pay6 (kAt arg4 (harg4.unread x1) (blk (j (n / 8)))) (qRd arg3 (harg3.unread x0) (sc n))

/-- The stores before the loop. -/
abbrev p0Pre : List (View.Piece (Elt F) S512x2048 .bf16) := pieces (Val := Elt F) (e := .bf16) (r := 512) (pAt arg3 harg3 arg4 harg4 x0 x1 (fun _ => 0)) 8
/-- The row sums before the loop. -/
abbrev lPre : List (View.Piece (Elt F) S8x2048 .f32) :=
  carriedOn (Val := Elt F) (e := .f32) (r := 8) arg9.view (fun n l => k0_pay5 (kAt arg4 (harg4.unread x1) (blk 0)) (qRd arg3 (harg3.unread x0) (sc n)) l)
    [⟨Rect.unit ![0, 0] S8x2048.size inb_S8x2048_S8x2048_0_0, k0_pay302⟩] 8
/-- The accumulator before the loop. -/
abbrev aPre : List (View.Piece (Elt F) S64x2048 .f32) := [⟨Rect.unit ![0, 0] S64x2048.size inb_S64x2048_S64x2048_0_0, k0_pay303⟩]

/-- The stores after the loop, over the loop's. -/
abbrev lPost (L : List (View.Piece (Elt F) S8x2048 .f32)) : List (View.Piece (Elt F) S8x2048 .f32) :=
  carriedOn (Val := Elt F) (e := .f32) (r := 8) arg9.view (fun n l => k0_pay5 (kAt arg4 (harg4.unread x1) (blk (25 + n / 8))) (qRd arg3 (harg3.unread x0) (sc n)) l) L 56
/-- The weights after the loop. -/
abbrev pPost (L0 L1 : List (View.Piece (Elt F) S512x2048 .bf16)) (n : ℕ) : FVec F S512x256 .bf16 :=
  bif Nat.beq (n / 8 % 2) 1 then
    arg8.view.readCov (pieces (Val := Elt F) (e := .bf16) (r := 512) (pAt arg3 harg3 arg4 harg4 x0 x1 (fun t => 25 + 2 * t)) (8 * ((n / 8 + 1) / 2)) ++ L1) (rect 512 (sc n)).toLoadRect
  else arg7.view.readCov (pieces (Val := Elt F) (e := .bf16) (r := 512) (pAt arg3 harg3 arg4 harg4 x0 x1 (fun t => 26 + 2 * t)) (8 * (n / 8 / 2)) ++ L0) (rect 512 (sc n)).toLoadRect
/-- The accumulator after the loop. -/
abbrev aPost (L0 L1 : List (View.Piece (Elt F) S512x2048 .bf16)) (L : List (View.Piece (Elt F) S64x2048 .f32)) : List (View.Piece (Elt F) S64x2048 .f32) :=
  carriedOn (Val := Elt F) (e := .f32) (r := 64) arg10.view (fun n a => k0_pay2 a (vAt arg5 (harg5.unread x2) (blk (24 + n / 8))) (pPost arg3 harg3 arg4 harg4 arg7 arg8 x0 x1 L0 L1 n)) L 64

/-- The one store of the body to its output. -/
theorem run_stores : (kernelRun (F := F) c i arg3 harg3 arg4 harg4 arg5 harg5 arg6 harg6 arg7 harg7 arg8 harg8 arg9 harg9 arg10 harg10 x0 x1 x2).1 g7 g8 g9 g10
    = [⟨Rect.unit ![0, 0, 0, 0] S1x1x64x2048.size inb_S1x1x64x2048_S1x1x64x2048_0_0_0_0,
        k0_pay3
          (arg9.view.readCov (lPost arg3 harg3 arg4 harg4 arg9 x0 x1 ((pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3).2.2.1 ++ lPre arg3 harg3 arg4 harg4 arg9 x0 x1)) (Rect.unit ![0, 0] S8x2048.size inb_S8x2048_S8x2048_0_0).toLoadRect)
          (arg10.view.readCov (aPost arg3 harg3 arg4 harg4 arg5 harg5 arg7 arg8 arg10 x0 x1 x2 ((pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3).1 ++ p0Pre arg3 harg3 arg4 harg4 x0 x1) (pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3).2.1 ((pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3).2.2.2 ++ aPre)) (Rect.unit ![0, 0] S64x2048.size inb_S64x2048_S64x2048_0_0).toLoadRect)⟩] := by
  sl_kernel_rfl

end

end Cert.Kernel2Ideal.Att

end
-- ==== Proof.MlaOut.lean ====
module

public import proofs.«01_k».proof.Proof.MlaRoot

@[expose] public section

set_option maxRecDepth 16384

noncomputable section

/-! What the body stores, as a function of its input blocks alone. -/

namespace Cert.Kernel2Ideal.Att

open Cert.Kernel2Ideal.Gen Cert.Strip
open Idealize.ShloMosaic Idealize.ShloMosaic.TcCoe

variable {F : FTy → Type} [FloatOps F] [Named F]

/-- The quotient of the weighted sums by the sums of the weights, over all 32 blocks of keys. -/
def outVal (x0 : Vec F S1x1x128x2048 .bf16) (x1 : Vec F S1x1x32x512x128 .bf16) (x2 : Vec F S1x1x32x64x512 .bf16) : Vec F S1x1x64x2048 .bf16 :=
  k0_pay3 (glue (r := 8) fun s => lS x0 x1 s 32) (glue (r := 64) fun s => aS x0 x1 x2 s 32)

section
variable (c : Dev nD) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole)
  (x0 : Vec F S1x1x128x2048 .bf16) (x1 : Vec F S1x1x32x512x128 .bf16) (x2 : Vec F S1x1x32x64x512 .bf16)
  (g7 : BufTy.Contents (Elt F) arg7.view.ty) (g8 : BufTy.Contents (Elt F) arg8.view.ty) (g9 : BufTy.Contents (Elt F) arg9.view.ty) (g10 : BufTy.Contents (Elt F) arg10.view.ty)

/-- The block of keys read in the unrolled part. -/
theorem kAt_eq (j : Fin 32) : kAt (F := F) arg4 (harg4.unread x1) j = kB x1 j.val := by
  unfold kAt kB
  rw [View.readAt_unit arg4.view _ _ rfl (inb_k j), harg4.read_unread]
  exact congrArg (kF x1) (show blk j.val = j from Fin.ext (Nat.mod_eq_of_lt j.isLt)).symm

/-- The block of values read in the unrolled part. -/
theorem vAt_eq (j : Fin 32) : vAt (F := F) arg5 (harg5.unread x2) j = vB x2 j.val := by
  unfold vAt vB
  rw [View.readAt_unit arg5.view _ _ rfl (inb_v j), harg5.read_unread]
  exact congrArg (vF x2) (show blk j.val = j from Fin.ext (Nat.mod_eq_of_lt j.isLt)).symm

/-- A block number below 32 is itself. -/
theorem blk_val (j : ℕ) (h : j < 32) : (blk j).val = j := Nat.mod_eq_of_lt h

/-- The weights of a round in the unrolled part. -/
theorem pAt_eq (j : ℕ → ℕ) (t : ℕ) (h : j t < 32) (s : Fin 8) : pAt (F := F) arg3 harg3 arg4 harg4 x0 x1 j (8 * t + s.val) = pS x0 x1 s (j t) := by
  unfold pAt pS
  rw [qRd_eq, kAt_eq, sc_add, div_add, blk_val _ h]

/-- The first buffer of weights before the loop. -/
theorem pre7 (s : Fin 8) : win (r := 512) s (arg7.view.read (Elt F) (arg7.view.writes (Elt F) arg7.view.junk (p0Pre arg3 harg3 arg4 harg4 x0 x1))) = pS x0 x1 s 0 := by
  unfold p0Pre
  rw [win_rounds (Val := Elt F) (e := .bf16) (r := 512) _ _ _ s 0, pAt_eq _ _ _ _ _ _ _ _ (by omega)]

/-- The row sums before the loop. -/
theorem pre9 (s : Fin 8) : win (r := 8) s (arg9.view.read (Elt F) (arg9.view.writes (Elt F) arg9.view.junk (lPre arg3 harg3 arg4 harg4 arg9 x0 x1))) = lS x0 x1 s 1 := by
  unfold lPre
  rw [carriedOn_eq, View.writes_append, win_rounds (Val := Elt F) (e := .f32) (r := 8) _ _ _ s 0]
  refine carry_steps (lS x0 x1) 0 1 (fun s => ?_) (fun t ht s => ?_) 0 (by omega) s
  · rw [View.read_writes_full]; rfl
  · beta_reduce
    obtain rfl : t = 0 := by omega
    rw [sc_add, qRd_eq, kAt_eq, blk_val _ (by omega)]
    rfl

/-- The accumulator before the loop. -/
theorem pre10 (s : Fin 8) : win (r := 64) s (arg10.view.read (Elt F) (arg10.view.writes (Elt F) arg10.view.junk aPre)) = aS x0 x1 x2 s 0 := by
  unfold aPre
  rw [View.read_writes_full]; rfl

/-- The weights the `n`-th update after the loop reads. -/
theorem pPost_eq (L0 L1 : List (View.Piece (Elt F) S512x2048 .bf16))
    (h0 : ∀ s, win (r := 512) s (arg7.view.read (Elt F) (arg7.view.writes (Elt F) arg7.view.junk L0)) = pS x0 x1 s 24) (t : ℕ) (ht : t < 8) (s : Fin 8) :
    pPost (F := F) arg3 harg3 arg4 harg4 arg7 arg8 x0 x1 L0 L1 (8 * t + s.val) = pS x0 x1 s (24 + t) := by
  have hc := s.isLt
  unfold pPost
  rw [sc_add, div_add]
  have hr : ∀ (v : View sig .tc .vmem S512x2048 .bf16) M, v.readCov M (rect 512 s).toLoadRect = win (r := 512) s (v.read (Elt F) (v.writes (Elt F) v.junk M)) := fun v M => rfl
  by_cases h1 : t % 2 = 1
  · rw [show Nat.beq (t % 2) 1 = true by rw [h1]; rfl]
    obtain ⟨u, rfl⟩ : ∃ u, t = 2 * u + 1 := ⟨t / 2, by omega⟩
    rw [show (2 * u + 1 + 1) / 2 = u + 1 by omega]
    refine (hr arg8.view _).trans ?_
    rw [View.writes_append, win_rounds (Val := Elt F) (e := .bf16) (r := 512) _ _ _ s u, pAt_eq _ _ _ _ _ _ _ _ (by omega), show 25 + 2 * u = 24 + (2 * u + 1) by omega]
  · rw [show Nat.beq (t % 2) 1 = false from Bool.eq_false_iff.mpr fun e => h1 (Nat.eq_of_beq_eq_true e)]
    refine (hr arg7.view _).trans ?_
    by_cases hz : t = 0
    · subst hz; exact h0 s
    obtain ⟨u, rfl⟩ : ∃ u, t = 2 * (u + 1) := ⟨t / 2 - 1, by omega⟩
    rw [show 2 * (u + 1) / 2 = u + 1 by omega]
    rw [View.writes_append, win_rounds (Val := Elt F) (e := .bf16) (r := 512) _ _ _ s u, pAt_eq _ _ _ _ _ _ _ _ (by omega), show 26 + 2 * u = 24 + 2 * (u + 1) by omega]

/-- The body's one store to its output, from its input blocks alone. -/
theorem run_out : (kernelRun (F := F) c i arg3 harg3 arg4 harg4 arg5 harg5 arg6 harg6 arg7 harg7 arg8 harg8 arg9 harg9 arg10 harg10 x0 x1 x2).1 g7 g8 g9 g10
    = [⟨Rect.unit ![0, 0, 0, 0] S1x1x64x2048.size inb_S1x1x64x2048_S1x1x64x2048_0_0_0_0, outVal x0 x1 x2⟩] := by
  rw [run_stores]
  obtain ⟨i7, i9, i10⟩ := loop_state Variants.none c none i arg3 harg3 arg4 harg4 arg5 harg5 arg6 harg6 arg7 harg7 arg8 harg8 arg9 harg9 arg10 harg10
    (k0_pay327 (kAt arg4 (harg4.unread x1) 0)) x0 x1 x2 (arg7.view.writes (Elt F) arg7.view.junk (p0Pre arg3 harg3 arg4 harg4 x0 x1)) g8
    (arg9.view.writes (Elt F) arg9.view.junk (lPre arg3 harg3 arg4 harg4 arg9 x0 x1)) (arg10.view.writes (Elt F) arg10.view.junk aPre)
    (pre7 arg3 harg3 arg4 harg4 arg7 x0 x1) (pre9 arg3 harg3 arg4 harg4 arg9 x0 x1) (pre10 arg10 x0 x1 x2) 3 (by decide)
  generalize (pbL Variants.none c none i arg3 harg3 arg4 harg4 arg5 harg5 arg6 harg6 arg7 harg7 arg8 harg8 arg9 harg9 arg10 harg10 (k0_pay327 (kAt arg4 (harg4.unread x1) 0)) x0 x1 x2 (arg7.view.writes (Elt F) arg7.view.junk (p0Pre arg3 harg3 arg4 harg4 x0 x1)) g8 (arg9.view.writes (Elt F) arg9.view.junk (lPre arg3 harg3 arg4 harg4 arg9 x0 x1)) (arg10.view.writes (Elt F) arg10.view.junk aPre) 3) = pb at i7 i9 i10 ⊢
  unfold outVal
  refine congrArg (fun w => [(⟨Rect.unit ![0, 0, 0, 0] S1x1x64x2048.size inb_S1x1x64x2048_S1x1x64x2048_0_0_0_0, w⟩ : View.Piece (Elt F) S1x1x64x2048 .bf16)]) ?_
  refine congrArg₂ k0_pay3 (eq_glue _ _ fun s => ?_) (eq_glue _ _ fun s => ?_)
  · refine (congrArg (win (r := 8) s) (View.readAt_full arg9.view _ _)).trans ?_
    unfold lPost
    rw [carriedOn_eq, View.writes_append, win_rounds (Val := Elt F) (e := .f32) (r := 8) _ _ _ s 6]
    refine (carry_steps (lS x0 x1) 25 7 (fun s => ?_) (fun t ht s => ?_) 6 (by omega) s).trans rfl
    · rw [View.writes_append]; exact i9 s
    · beta_reduce
      rw [sc_add, div_add, qRd_eq, kAt_eq, blk_val _ (by omega)]
      rfl
  · refine (congrArg (win (r := 64) s) (View.readAt_full arg10.view _ _)).trans ?_
    unfold aPost
    rw [carriedOn_eq, View.writes_append, win_rounds (Val := Elt F) (e := .f32) (r := 64) _ _ _ s 7]
    refine (carry_steps (aS x0 x1 x2) 24 8 (fun s => ?_) (fun t ht s => ?_) 7 (by omega) s).trans rfl
    · rw [View.writes_append]; exact i10 s
    · beta_reduce
      rw [pPost_eq arg3 harg3 arg4 harg4 arg7 arg8 x0 x1 _ _ (fun s => by rw [View.writes_append]; exact i7 s) t ht, div_add, vAt_eq, blk_val _ (by omega)]
      rfl

end

end Cert.Kernel2Ideal.Att

end
-- ==== Proof.MlaFrame.lean ====
module

public import proofs.«01_k».proof.Proof.MlaOut
public import Idealize.ShloMosaic.Lib.Claim
public import Idealize.ShloMosaic.Lib.Pipeline.Value

@[expose] public section

set_option maxRecDepth 16384

noncomputable section

/-! The launch: what the output holds after each grid point, the body's obligation, and the run. -/

namespace Cert.Kernel2Ideal.Att

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-- The body's run, the scratch buffers at any contents: it leaves its output at the quotient of its input blocks. -/
theorem kernelRun_owned (c : Dev nD) (i : grid0.Coords) (arg3 : Memref sig .tc .vmem S1x1x128x2048 .bf16) (harg3 : arg3.IsWhole) (arg4 : Memref sig .tc .vmem S1x1x32x512x128 .bf16) (harg4 : arg4.IsWhole) (arg5 : Memref sig .tc .vmem S1x1x32x64x512 .bf16) (harg5 : arg5.IsWhole) (arg6 : Memref sig .tc .vmem S1x1x64x2048 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S8x2048 .f32) (harg9 : arg9.IsWhole) (arg10 : Memref sig .tc .vmem S64x2048 .f32) (harg10 : arg10.IsWhole)
    (x0 : Vec F S1x1x128x2048 .bf16) (x1 : Vec F S1x1x32x512x128 .bf16) (x2 : Vec F S1x1x32x64x512 .bf16)
    (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare (outVal x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_attention_bounded i arg3 harg3 arg4 harg4 arg5 harg5 arg6 harg6 arg7 harg7 arg8 harg8 arg9 harg9 arg10 harg10) K := by
  have H := fun g7 g8 g9 g10 => (kernelRun (F := F) c i arg3 harg3 arg4 harg4 arg5 harg5 arg6 harg6 arg7 harg7 arg8 harg8 arg9 harg9 arg10 harg10 x0 x1 x2).2 E K g7 g8 g9 g10
  simp only [run_out] at H
  unfold owns at H ⊢
  iintro ⟨H0, H1, H2, H3, ⟨%d7, %f7, -, HS0⟩, ⟨%d8, %f8, -, HS1⟩, ⟨%d9, %f9, -, HS2⟩, ⟨%d10, %f10, -, HS3⟩, Hk⟩
  iapply (H f7 f8 f9 f10)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, ⟨%e3, H3⟩, HS⟩
  iapply Hk
  isplitl [H0]; · iexact H0
  isplitl [H1]; · iexact H1
  isplitl [H2]; · iexact H2
  isplitl [H3]
  · iexists _; isplitr
    swap; · iexact H3
    ipureintro; exact View.read_writes_full _ _ _ _ _
  iexact HS

/-! ## What the output holds after each point -/

/-- What the output's staging buffer holds after the body at point `t`: the quotient of the point's input blocks. -/
def outsAt0 (c : Dev nD) (t : Fin cfg0.N) : Vec F S1x1x64x2048 .bf16 :=
  outVal (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The keys are unchanged by a grid point. -/
theorem after0_1 (c : Dev nD) (t : Fin cfg0.N) : (dats m 0 c).after 1 t = iblk m c 1 t := by dsimp only [dats]
/-- The values are unchanged by a grid point. -/
theorem after0_2 (c : Dev nD) (t : Fin cfg0.N) : (dats m 0 c).after 2 t = iblk m c 2 t := by dsimp only [dats]
/-- The output after a grid point. -/
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- The keys before a grid point. -/
theorem before0_1 (c : Dev nD) (t : Fin cfg0.N) (d) : (dats m 0 c).before 1 t d = iblk m c 1 t :=
  before0_1_of m (dats m 0 c) (A_eq m c 1) (after0_1 m c) t d
/-- The values before a grid point. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  iintro ⟨⟨⟨HS0, HS1, HS2, HS3⟩, Hg⟩, Ho, ⟨%d0, H0⟩, ⟨%d1, H1⟩, ⟨%d2, H2⟩, ⟨%d3, H3⟩⟩
  iapply (kernelRun_owned c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run leaves the argument arrays as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel2Ideal.Att

end
-- ==== Proof.MlaKernelFrame.lean ====
module

public import proofs.«01_k».proof.Defs
public import proofs.«01_k».proof.Proof.Gen.Kernel2
public import proofs.«01_k».proof.Proof.MlaFrame

@[expose] public section

set_option maxRecDepth 16384

noncomputable section

/-! The kernel as compiled and the kernel printed for the extended reals are one program: they differ in how
the folded scale is spelt, a bit pattern in the one and a named constant in the other. Read on bit patterns, with the
named constant standing for its pattern, the second is the first, so that its frame is the first one's. -/

namespace Cert.Kernel2Ideal.Att

open Idealize.ShloMosaic Idealize.ShloMosaic.TcCoe Idealize.ShloMosaic.Tactic Idealize.SL.Sem

/-- On bit patterns a named constant is the pattern it was printed from. -/
local instance : Named Bits where
  named _ _ {φ} b := Scalar.ofBits φ b

/-- The frame of the kernel as compiled is that of the kernel read on bit patterns. -/
theorem quiescent_same : @Cert.quiescent_Kernel2 Cert.Kernel2.Gen.facts =
    ∀ (m : (ℓ : Loc nD τ sig) → Buf (Elt Bits) ℓ) (g : Dev nD → PrngReg), True →
      θ_run (defs (F := Bits)) (onTc (τ := τ) (main (F := Bits))) ⟨m, fun _ => 0, g⟩ (fun r => (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.sem = fun _ => 0) := by
  sl_kernel_rfl

/-- The kernel as compiled runs, leaves its arguments as they were and every semaphore counter at zero. -/
theorem quiescent_kernel : @Cert.quiescent_Kernel2 Cert.Kernel2.Gen.facts :=
  quiescent_same.mpr fun m g _ => frame m g

end Cert.Kernel2Ideal.Att

end
-- ==== Proof.MlaPure.lean ====
module

public import proofs.«01_k».proof.Proof.MlaOut
public import Idealize.ShloMosaic.Lib.Pointwise
public import Idealize.ShloMosaic.PureOps.IdealRules

/-! The pure values of the attention body over the extended reals: weights, row sums, accumulator. -/

@[expose] public section

set_option maxRecDepth 16384

noncomputable section

namespace Cert.Kernel2Ideal.Att

open Cert.Kernel2Ideal Cert.Kernel2Ideal.Gen
open Idealize.ShloMosaic Idealize.ShloMosaic.TcCoe

/-- The named scale is one over the root of 96 times `log 2`. -/
theorem scale_eq : Named.named (F := Ideal) Cert.Kernel2Ideal.κ "scale_log2e" (φ := .f32) 0x3E16C740#32 = ((((Real.sqrt 96) * (Real.log 2))⁻¹ : ℝ) : EReal) :=
  IdealRules.named_const.ideal_named_scalar _ _ _ _ rfl

/-- An entry of the weights of a strip. -/
theorem pay4_at (k : FVec Ideal S1x1x1x512x128 .bf16) (q : FVec Ideal S1x1x128x256 .bf16) (r : Fin 512) (x : Fin 256) :
    k0_pay4 (F := Ideal) k q (ix2 r x)
      = Ideal.exp2 ((∑ e : Fin 128, k (ix5 0 0 0 r e) * q (ix4 0 0 e x)) * ((((Real.sqrt 96) * (Real.log 2))⁻¹ : ℝ) : EReal)) := by
  rw [← scale_eq]
  pointwise [k0_pay4]
  rfl

/-- The weights as stored are the weights. -/
theorem pay6_at (k : FVec Ideal S1x1x1x512x128 .bf16) (q : FVec Ideal S1x1x128x256 .bf16) (r : Fin 512) (x : Fin 256) :
    k0_pay6 (F := Ideal) k q (ix2 r x) = k0_pay4 (F := Ideal) k q (ix2 r x) := by
  pointwise [k0_pay6]

/-- An entry of the row sums after one block. -/
theorem pay5_at (k : FVec Ideal S1x1x1x512x128 .bf16) (q : FVec Ideal S1x1x128x256 .bf16) (l : FVec Ideal S8x256 .f32) (u : Fin 8) (x : Fin 256) :
    k0_pay5 (F := Ideal) k q l (ix2 u x)
      = l (ix2 u x) + ∑ i : Fin 64, k0_pay4 (F := Ideal) k q (ix2 ⟨i.val * 8 + u.val, by omega⟩ x) := by
  pointwise [k0_pay5]

/-- An entry of the accumulator after one block. -/
theorem pay2_at (a : FVec Ideal S64x256 .f32) (v : FVec Ideal S1x1x1x64x512 .bf16) (p : FVec Ideal S512x256 .bf16) (d : Fin 64) (x : Fin 256) :
    k0_pay2 (F := Ideal) a v p (ix2 d x) = a (ix2 d x) + ∑ r : Fin 512, v (ix5 0 0 0 d r) * p (ix2 r x) := by
  pointwise [k0_pay2]

/-- An entry of the output: the accumulator over the sum of the eight row sums. -/
theorem pay3_at (l : FVec Ideal S8x2048 .f32) (a : FVec Ideal S64x2048 .f32) (z z' : Fin 1) (d : Fin 64) (x : Fin 2048) :
    k0_pay3 (F := Ideal) l a (ix4 z z' d x) = Ideal.div (a (ix2 d x)) (∑ u : Fin 8, l (ix2 u x)) := by
  pointwise [k0_pay3]

/-- The row sums start at zero. -/
theorem pay302_at (i : S8x2048.Idx) : k0_pay302 (F := Ideal) i = 0 := by
  idx_vars i
  pointwise [k0_pay302]

/-- The accumulator starts at zero. -/
theorem pay303_at (i : S64x2048.Idx) : k0_pay303 (F := Ideal) i = 0 := by
  idx_vars i
  pointwise [k0_pay303]

section
variable (x0 : FVec Ideal S1x1x128x2048 .bf16) (x1 : FVec Ideal S1x1x32x512x128 .bf16) (x2 : FVec Ideal S1x1x32x64x512 .bf16)

/-- An entry of a strip of queries. -/
theorem qB_at (c : Fin 8) (e : Fin 128) (x : Fin 256) :
    qB (F := Ideal) x0 c (ix4 0 0 e x) = x0 (ix4 0 0 e ⟨256 * c.val + x.val, by omega⟩) := by
  unfold qB VecWindow.window
  congr 1
  idx_ext

/-- An entry of a block of keys. -/
theorem kF_at (j : Fin 32) (r : Fin 512) (e : Fin 128) : kF (F := Ideal) x1 j (ix5 0 0 0 r e) = x1 (ix5 0 0 j r e) := by
  unfold kF VecWindow.window
  congr 1
  idx_ext

/-- An entry of a block of values. -/
theorem vF_at (j : Fin 32) (d : Fin 64) (r : Fin 512) : vF (F := Ideal) x2 j (ix5 0 0 0 d r) = x2 (ix5 0 0 j d r) := by
  unfold vF VecWindow.window
  congr 1
  idx_ext

/-- The weight of key `r` of block `j` for the query in column `x`. -/
def wt (j : Fin 32) (r : Fin 512) (x : Fin 2048) : EReal :=
  Ideal.exp2 ((∑ e : Fin 128, x1 (ix5 0 0 j r e) * x0 (ix4 0 0 e x)) * ((((Real.sqrt 96) * (Real.log 2))⁻¹ : ℝ) : EReal))

/-- A weight from the entries of its key and its query. -/
theorem wt_eq (j : Fin 32) (r : Fin 512) (x : Fin 2048) (f g : Fin 128 → EReal) (hf : ∀ e, x1 (ix5 0 0 j r e) = f e) (hg : ∀ e, x0 (ix4 0 0 e x) = g e) :
    wt x0 x1 j r x = Ideal.exp2 ((∑ e, f e * g e) * ((((Real.sqrt 96) * (Real.log 2))⁻¹ : ℝ) : EReal)) := by
  unfold wt
  simp only [hf, hg]

/-- The weights of a strip are the weights of the block. -/
theorem pay4_wt (c : Fin 8) (j : ℕ) (r : Fin 512) (x : Fin 256) :
    k0_pay4 (F := Ideal) (kB x1 j) (qB x0 c) (ix2 r x) = wt x0 x1 (blk j) r ⟨256 * c.val + x.val, by omega⟩ := by
  rw [pay4_at]
  unfold kB wt
  simp only [kF_at, qB_at]

/-- The number of a block is the block. -/
theorem blk_fin (j : Fin 32) : blk j.val = j := Fin.ext (Nat.mod_eq_of_lt j.isLt)

/-- The row sums after some blocks, as a sum of weights. -/
theorem lS_at (c : Fin 8) (n : ℕ) (u : Fin 8) (x : Fin 256) : lS (F := Ideal) x0 x1 c n (ix2 u x)
    = ∑ j ∈ Finset.range n, ∑ i : Fin 64, wt x0 x1 (blk j) ⟨i.val * 8 + u.val, by omega⟩ ⟨256 * c.val + x.val, by omega⟩ := by
  induction n with
  | zero => rw [Finset.sum_range_zero]; unfold lS; exact pay302_at (Rect.emb _ _)
  | succ n ih =>
    rw [Finset.sum_range_succ, ← ih, lS, pay5_at]
    simp only [pay4_wt]

/-- The accumulator after some blocks, as a sum of weights times values. -/
theorem aS_at (c : Fin 8) (n : ℕ) (d : Fin 64) (x : Fin 256) : aS (F := Ideal) x0 x1 x2 c n (ix2 d x)
    = ∑ j ∈ Finset.range n, ∑ r : Fin 512, x2 (ix5 0 0 (blk j) d r) * wt x0 x1 (blk j) r ⟨256 * c.val + x.val, by omega⟩ := by
  induction n with
  | zero => rw [Finset.sum_range_zero]; unfold aS; exact pay303_at (Rect.emb _ _)
  | succ n ih =>
    rw [Finset.sum_range_succ, ← ih, aS, pay2_at]
    unfold pS vB
    simp only [pay6_at, pay4_wt, vF_at]

/-- A block of outputs: the weighted sums of the values over the sums of the weights, key by key. -/
theorem outVal_at (z z' : Fin 1) (d : Fin 64) (x : Fin 2048) : outVal (F := Ideal) x0 x1 x2 (ix4 z z' d x)
    = Ideal.div (∑ s : Fin 16384, x2 (ix5 0 0 ⟨s.val / 512, by omega⟩ d ⟨s.val % 512, by omega⟩) * wt x0 x1 ⟨s.val / 512, by omega⟩ ⟨s.val % 512, by omega⟩ x)
        (∑ s : Fin 16384, wt x0 x1 ⟨s.val / 512, by omega⟩ ⟨s.val % 512, by omega⟩ x) := by
  have hx : (⟨256 * (⟨x.val / 256, by omega⟩ : Fin 8).val + (⟨x.val % 256, by omega⟩ : Fin 256).val, by show 256 * (x.val / 256) + x.val % 256 < 2048; omega⟩ : Fin 2048) = x :=
    Fin.ext (by show 256 * (x.val / 256) + x.val % 256 = x.val; omega)
  have hdiv : ∀ (j : Fin 32) (t : Fin 512) (h), (⟨(j.val * 512 + t.val) / 512, h⟩ : Fin 32) = j := fun j t h => Fin.ext (by show (j.val * 512 + t.val) / 512 = j.val; omega)
  have hmod : ∀ (j : Fin 32) (t : Fin 512) (h), (⟨(j.val * 512 + t.val) % 512, h⟩ : Fin 512) = t := fun j t h => Fin.ext (by show (j.val * 512 + t.val) % 512 = t.val; omega)
  unfold outVal
  rw [pay3_at]
  refine congrArg₂ Ideal.div ?_ ?_
  · refine (aS_at x0 x1 x2 ⟨x.val / 256, by omega⟩ 32 d ⟨x.val % 256, by omega⟩).trans ?_
    rw [hx, Fin.sum_univ_tiles (N := 16384) 32 512 (by norm_num), Finset.sum_range]
    simp only [blk_fin, hdiv, hmod]
  · refine (Finset.sum_congr rfl fun u _ => lS_at x0 x1 ⟨x.val / 256, by omega⟩ 32 u ⟨x.val % 256, by omega⟩).trans ?_
    rw [hx, Fin.sum_univ_tiles (N := 16384) 32 512 (by norm_num), Finset.sum_comm, Finset.sum_range]
    refine Finset.sum_congr rfl fun j _ => ?_
    rw [Finset.sum_comm, blk_fin]
    simp only [hdiv, hmod]
    exact (Fin.sum_univ_tiles 64 8 (by norm_num) fun r : Fin 512 => wt x0 x1 j r x).symm

end

end Cert.Kernel2Ideal.Att

end
-- ==== Proof.MlaHost.lean ====
module

public import proofs.«01_k».proof.Proof.MlaFrame
public import Idealize.ShloMosaic.Lib.Pointwise
public import Idealize.ShloMosaic.Lib.Pipeline.ValueKit

@[expose] public section

set_option maxRecDepth 16384

noncomputable section

/-! The arrays the latent attention is called on, read at an index: queries and keys padded with zeros, values transposed
in blocks. -/

namespace Cert.Kernel2Ideal.Att

open Cert.Kernel2Ideal Cert.Kernel2Ideal.Gen
open Idealize.ShloMosaic Idealize.ShloMosaic.TcCoe Idealize.SL.Sem

/-- The queries, transposed and padded. -/
def QT (Q : FVec Ideal S2x8x16384x96 .f32) : FVec Ideal S2x8x128x16384 .bf16 :=
  truncf .bf16 (concatenate S2x8x128x16384 2
    [⟨S2x8x96x16384, transpose S2x8x96x16384 [0, 1, 3, 2] Q transposes_S2x8x16384x96_S2x8x96x16384_0_1_3_2⟩,
     ⟨S2x8x32x16384, broadcastInDim S2x8x32x16384 ![] bcast_S_S2x8x32x16384 (constant (F := Ideal) S_ .f32 0x00000000#32)⟩]
    concatenates_S2x8x96x16384_S2x8x32x16384_S2x8x128x16384_d2) bitsLt_bf16_f32

/-- The keys, padded. -/
def KP (K : FVec Ideal S2x8x16384x96 .f32) : FVec Ideal S2x8x16384x128 .f32 :=
  concatenate S2x8x16384x128 3
    [⟨S2x8x16384x96, K⟩, ⟨S2x8x16384x32, broadcastInDim S2x8x16384x32 ![] bcast_S_S2x8x16384x32 (constant (F := Ideal) S_ .f32 0x00000000#32)⟩]
    concatenates_S2x8x16384x96_S2x8x16384x32_S2x8x16384x128_d3

/-- The padded keys, in blocks of keys. -/
def KK (K : FVec Ideal S2x8x16384x96 .f32) : FVec Ideal S2x8x32x512x128 .bf16 :=
  truncf .bf16 (shapeCast _ (KP K) shapeCasts_S2x8x16384x128_S2x8x32x512x128) bitsLt_bf16_f32

/-- The values, in blocks of keys, each transposed. -/
def VT (V : FVec Ideal S2x8x16384x64 .f32) : FVec Ideal S2x8x32x64x512 .bf16 :=
  truncf .bf16 (transpose S2x8x32x64x512 [0, 1, 2, 4, 3] (shapeCast _ V shapeCasts_S2x8x16384x64_S2x8x32x512x64) transposes_S2x8x32x512x64_S2x8x32x64x512_0_1_2_4_3) bitsLt_bf16_f32

variable (m : (ℓ : Loc nD τ sig) → Buf (Elt Ideal) ℓ)

/-- The queries the call is given. -/
theorem V_q (c : Dev nD) : V m c main_v8 = QT (m ((c : Thread nD τ).loc main_arg0)) := by
  entry_read
  rfl

/-- The keys the call is given. -/
theorem V_k (c : Dev nD) : V m c main_v9 = KK (m ((c : Thread nD τ).loc main_arg1)) := by
  entry_read
  rfl

/-- The values the call is given. -/
theorem V_v (c : Dev nD) : V m c main_v10 = VT (m ((c : Thread nD τ).loc main_arg2)) := by
  entry_read
  rfl

/-- An entry of the prepared queries. -/
theorem QT_at (Q : FVec Ideal S2x8x16384x96 .f32) (b : Fin 2) (n : Fin 8) (e : Fin 128) (x : Fin 16384) :
    QT Q (ix4 b n e x) = if h : e.val < 96 then Q (ix4 b n x ⟨e.val, h⟩) else 0 := by
  pointwise [QT]

/-- Rounding to a narrower format is the identity on the extended reals. -/
theorem trunc_at {s : Shape} (X : FVec Ideal s .f32) (h) (i : s.Idx) : truncf .bf16 X h i = X i := rfl

/-- An entry of the padded keys. -/
theorem KP_at (K : FVec Ideal S2x8x16384x96 .f32) (b : Fin 2) (n : Fin 8) (x : Fin 16384) (e : Fin 128) :
    KP K (ix4 b n x e) = if h : e.val < 96 then K (ix4 b n x ⟨e.val, h⟩) else 0 := by
  pointwise [KP]

/-- The position of an entry of an array of rank 4. -/
theorem pos4 (b : Fin 2) (n : Fin 8) (x : Fin 16384) (e : Fin 128) :
    (S2x8x16384x128.rowMajor (ix4 b n x e)).val = b.val * 16777216 + n.val * 2097152 + x.val * 128 + e.val :=
  rowMajor_val4 _ 16777216 2097152 128 rfl rfl rfl

/-- The position of an entry of an array of rank 5. -/
theorem pos5 (b : Fin 2) (n : Fin 8) (j : Fin 32) (r : Fin 512) (e : Fin 128) :
    (S2x8x32x512x128.rowMajor (ix5 b n j r e)).val = b.val * 16777216 + n.val * 2097152 + j.val * 65536 + r.val * 128 + e.val :=
  rowMajor_val5 _ 16777216 2097152 65536 128 rfl rfl rfl rfl

/-- Splitting the keys' axis into blocks reads the key at its place in the axis. -/
theorem cast_at (W : S2x8x16384x128.Idx → EReal) (h : S2x8x16384x128.ShapeCasts S2x8x32x512x128) (b : Fin 2) (n : Fin 8) (j : Fin 32) (r : Fin 512) (e : Fin 128)
    (x : Fin 16384) (hx : x.val = j.val * 512 + r.val) : shapeCast S2x8x32x512x128 W h (ix5 b n j r e) = W (ix4 b n x e) := by
  refine Idealize.ShloMosaic.shapeCast_apply W h _ _ ?_
  rw [pos4, pos5, hx]
  omega

/-- An entry of the prepared keys. -/
theorem KK_at (K : FVec Ideal S2x8x16384x96 .f32) (b : Fin 2) (n : Fin 8) (j : Fin 32) (r : Fin 512) (e : Fin 128) :
    KK K (ix5 b n j r e) = if h : e.val < 96 then K (ix4 b n ⟨j.val * 512 + r.val, by omega⟩ ⟨e.val, h⟩) else 0 := by
  unfold KK
  rw [trunc_at]
  exact (cast_at _ _ _ _ _ _ _ ⟨j.val * 512 + r.val, by omega⟩ rfl).trans (KP_at ..)

/-- An entry of the prepared values. -/
theorem VT_at (V : FVec Ideal S2x8x16384x64 .f32) (b : Fin 2) (n : Fin 8) (j : Fin 32) (d : Fin 64) (r : Fin 512) :
    VT V (ix5 b n j d r) = V (ix4 b n ⟨j.val * 512 + r.val, by omega⟩ d) := by
  pointwise [VT]

/-- A padded query against a padded key is the query against the key: the other products are of zeros. -/
theorem dot_at (Q K : FVec Ideal S2x8x16384x96 .f32) (b : Fin 2) (n : Fin 8) (j : Fin 32) (r : Fin 512) (x : Fin 16384) :
    ∑ e : Fin 128, KK K (ix5 b n j r e) * QT Q (ix4 b n e x)
      = ∑ e : Fin 96, K (ix4 b n ⟨j.val * 512 + r.val, by omega⟩ e) * Q (ix4 b n x e) := by
  simp only [KK_at, QT_at]
  rw [Fin.sum_univ_two_halves 96 32 (by norm_num)]
  have hz : ∀ e : Fin 32, (96 + e.val < 96) = False := fun e => eq_false (by omega)
  simp only [hz, Fin.is_lt, ↓reduceDIte, mul_zero, Finset.sum_const_zero, add_zero]

/-- Which block each window is at, at every grid point. -/
theorem idx : ∀ t : Fin cfg0.N, win0_0.index t = ![t.val / 64, t.val / 8 % 8, 0, t.val % 8] ∧ win0_1.index t = ![t.val / 64, t.val / 8 % 8, 0, 0, 0]
    ∧ win0_2.index t = ![t.val / 64, t.val / 8 % 8, 0, 0, 0] ∧ win0_3.index t = ![t.val / 64, t.val / 8 % 8, 0, t.val % 8] ∧ t.val < 128 :=
  (by decide +kernel : ∀ t : Fin grid0.N, _)

/-- The number of grid points. -/
theorem tlt (t : Fin cfg0.N) : t.val < 128 := (idx t).2.2.2.2

/-- An entry of the block of queries of a grid point. -/
theorem iblk_q (c : Dev nD) (t : Fin cfg0.N) (z z' : Fin 1) (e : Fin 128) (x : Fin 2048) :
    (iblk m c 0 t : FVec Ideal S1x1x128x2048 .bf16) (ix4 z z' e x)
      = QT (m ((c : Thread nD τ).loc main_arg0)) (ix4 ⟨t.val / 64, by have := tlt t; omega⟩ ⟨t.val / 8 % 8, by omega⟩ e ⟨2048 * (t.val % 8) + x.val, by omega⟩) := by
  rw [← V_q]
  blk_ext [iblk, idx t]

/-- Reading an entry of a block of keys from any array. -/
theorem read_k (t : Fin cfg0.N) (y : ((cfg0.win 1).xblock (cfg0.grid.coords t)).Idx) (X : S2x8x32x512x128.Idx → EReal) :
    ((cfg0.win 1).blk t).view.read (Elt Ideal) X y = X (((cfg0.win 1).blk t).view.emb y) := rfl

/-- Where an entry of a block of keys lies. -/
theorem emb_k (t : Fin cfg0.N) (z z' : Fin 1) (j : Fin 32) (r : Fin 512) (e : Fin 128) :
    ((cfg0.win 1).blk t).view.emb (ix5 z z' j r e) = (ix5 ⟨t.val / 64, by have := tlt t; omega⟩ ⟨t.val / 8 % 8, by omega⟩ j r e) := by
  blk_ext [idx t]

/-- A block of keys is read from the prepared keys. -/
theorem iblk_V (c : Dev nD) (t : Fin cfg0.N) (y : ((cfg0.win 1).xblock (cfg0.grid.coords t)).Idx) :
    iblk m c 1 t y = ((cfg0.win 1).blk t).view.read (Elt Ideal) (V m c main_v9) y := rfl

/-- The block of keys at a grid point, of any array the keys are prepared to. -/
theorem iblk_of (c : Dev nD) (K : S2x8x32x512x128.Idx → EReal) (h : V m c main_v9 = K) (t : Fin cfg0.N) (z z' : Fin 1) (j : Fin 32) (r : Fin 512) (e : Fin 128) :
    (iblk m c 1 t : FVec Ideal S1x1x32x512x128 .bf16) (ix5 z z' j r e)
      = K (ix5 ⟨t.val / 64, by have := tlt t; omega⟩ ⟨t.val / 8 % 8, by omega⟩ j r e) := by
  refine (iblk_V m c t (ix5 z z' j r e)).trans ?_
  rw [h]
  exact (read_k t _ K).trans (congrArg K (emb_k t z z' j r e))

/-- An entry of the block of keys of a grid point. -/
theorem iblk_k (c : Dev nD) (t : Fin cfg0.N) (z z' : Fin 1) (j : Fin 32) (r : Fin 512) (e : Fin 128) :
    (iblk m c 1 t : FVec Ideal S1x1x32x512x128 .bf16) (ix5 z z' j r e)
      = KK (m ((c : Thread nD τ).loc main_arg1)) (ix5 ⟨t.val / 64, by have := tlt t; omega⟩ ⟨t.val / 8 % 8, by omega⟩ j r e) :=
  iblk_of m c _ (V_k m c) t z z' j r e

/-- An entry of the block of values of a grid point. -/
theorem iblk_v (c : Dev nD) (t : Fin cfg0.N) (z z' : Fin 1) (j : Fin 32) (d : Fin 64) (r : Fin 512) :
    (iblk m c 2 t : FVec Ideal S1x1x32x64x512 .bf16) (ix5 z z' j d r)
      = VT (m ((c : Thread nD τ).loc main_arg2)) (ix5 ⟨t.val / 64, by have := tlt t; omega⟩ ⟨t.val / 8 % 8, by omega⟩ j d r) := by
  rw [← V_v]
  blk_ext [iblk, idx t]

end Cert.Kernel2Ideal.Att

end
-- ==== Proof.MlaRefer.lean ====
module

public import proofs.«01_k».proof.Proof.Gen.Reference2Ideal.Run
public import Idealize.ShloMosaic.Lib.Pointwise
public import Idealize.ShloMosaic.PureOps.Ideal
public import proofs.«01_k».proof.Proof.Soft

@[expose] public section

set_option maxRecDepth 16384

noncomputable section

/-! The latent attention's reference, read at an index. -/

namespace Cert.Reference2Ideal.Att

open Cert.Reference2Ideal Cert.Reference2Ideal.Gen
open Idealize.ShloMosaic Idealize.ShloMosaic.TcCoe

variable (Q K : FVec Ideal S2x8x16384x96 .f32) (V : FVec Ideal S2x8x16384x64 .f32)

/-- The scaled scores. -/
def SC : FVec Ideal S2x8x16384x16384 .f32 :=
  Host.divf (Host.dotGeneral dot_S2x8x16384x96_S2x8x16384x96_S2x8x16384x16384_3_3_2_2_01_01 none Q K) (broadcastInDim S2x8x16384x16384 ![] bcast_S_S2x8x16384x16384 (Host.sqrt (constant S_ .f32 0x42C00000#32)))

/-- Each query's largest score. -/
def MX : FVec Ideal S2x8x16384 .f32 :=
  maximumf (broadcastInDim S2x8x16384 ![] bcast_S_S2x8x16384 (constant S_ .f32 0xFF800000#32)) (Host.reduce FloatOps.maximumf (SC Q K) (constant S_ .f32 0xFF800000#32) reducesTo_S2x8x16384x16384_S2x8x16384_d3 h_S_)

/-- The exponentials of the scores less the largest. -/
def EX : FVec Ideal S2x8x16384x16384 .f32 :=
  Host.exp (subf (SC Q K) (broadcastInDim S2x8x16384x16384 ![0, 1, 2, 3] bcast_S2x8x16384x1_S2x8x16384x16384_0_1_2_3 (broadcastInDim S2x8x16384x1 ![0, 1, 2] bcast_S2x8x16384_S2x8x16384x1_0_1_2 (MX Q K))))

/-- The attention weights. -/
def SM : FVec Ideal S2x8x16384x16384 .f32 :=
  Host.divf (EX Q K) (broadcastInDim S2x8x16384x16384 ![0, 1, 2, 3] bcast_S2x8x16384x1_S2x8x16384x16384_0_1_2_3 (broadcastInDim S2x8x16384x1 ![0, 1, 2] bcast_S2x8x16384_S2x8x16384x1_0_1_2 (Host.reduceAdd (EX Q K) (constant S_ .f32 0x00000000#32) reducesTo_S2x8x16384x16384_S2x8x16384_d3 h_S_)))

/-- The reference's result. -/
def REF : FVec Ideal S2x8x64x16384 .bf16 :=
  truncf .bf16 (transpose S2x8x64x16384 [0, 1, 3, 2] (Host.dotGeneral dot_S2x8x16384x16384_S2x8x16384x64_S2x8x16384x64_3_2_2_3_01_01 none (SM Q K) V) transposes_S2x8x16384x64_S2x8x64x16384_0_1_3_2) bitsLt_bf16_f32

/-- An entry of the scores of the reference. -/
theorem SC_at (b : Fin 2) (n : Fin 8) (q s : Fin 16384) : SC Q K (ix4 b n q s)
    = Ideal.div (∑ d : Fin 96, Q (ix4 b n q d) * K (ix4 b n s d)) (Ideal.sqrt (Ideal.ofBits .f32 0x42C00000#32)) := by
  pointwise [SC]

/-- An entry of the exponentials of the reference. -/
theorem EX_at (b : Fin 2) (n : Fin 8) (q s : Fin 16384) : EX Q K (ix4 b n q s)
    = Ideal.exp (SC Q K (ix4 b n q s) - MX Q K (ix3 b n q)) := by
  pointwise [EX]

/-- An entry of the softmax of the reference. -/
theorem SM_at (b : Fin 2) (n : Fin 8) (q s : Fin 16384) : SM Q K (ix4 b n q s)
    = Ideal.div (EX Q K (ix4 b n q s)) (∑ s' : Fin 16384, EX Q K (ix4 b n q s')) := by
  pointwise [SM]

/-- An entry of the result of the reference. -/
theorem REF_at (b : Fin 2) (n : Fin 8) (d : Fin 64) (q : Fin 16384) : REF Q K V (ix4 b n d q)
    = ∑ s : Fin 16384, SM Q K (ix4 b n q s) * V (ix4 b n s d) := by
  pointwise [REF]

/-- The root the scores are divided by. -/
theorem root : Ideal.sqrt (Ideal.ofBits .f32 0x42C00000#32) = ((Real.sqrt 96 : ℝ) : EReal) := by
  have h : Ideal.ofBits .f32 0x42C00000#32 = ((96 : ℝ) : EReal) := by
    simp [Ideal.ofBits, Ideal.ieee, -EReal.coe_mul]; norm_num
  rw [h, Ideal.sqrt_coe, if_neg (by norm_num)]

/-- The word of minus infinity. -/
theorem ofBits_bot : Ideal.ofBits .f32 0xFF800000#32 = ⊥ := by
  simp [Ideal.ofBits, Ideal.ieee]

/-- Where every score is finite so is the largest one. -/
theorem MX_real (hs : ∀ i, ∃ r : ℝ, SC Q K i = (r : EReal)) (j : S2x8x16384.Idx) : ∃ μ : ℝ, MX Q K j = (μ : EReal) := by
  obtain ⟨μ, hμ⟩ := Cert.Soft.reduce_max_real (SC Q K) hs (constant (F := Ideal) S_ .f32 0xFF800000#32)
    reducesTo_S2x8x16384x16384_S2x8x16384_d3 (by decide) h_S_ ofBits_bot (by decide) j
  refine ⟨μ, ?_⟩
  unfold MX
  rw [Cert.Soft.maximumf_at, hμ]
  refine Eq.trans (congrArg (fun z => max z (μ : EReal)) (?_ : _ = (⊥ : EReal))) (max_bot_left _)
  exact ofBits_bot

/-- Where queries and keys are finite the reference is the weighted sum of the values over the sum of the weights, each weight
    the exponential of its score over the root of the channels. -/
theorem REF_eq (hQ : ∀ i, ∃ r : ℝ, Q i = (r : EReal)) (hK : ∀ i, ∃ r : ℝ, K i = (r : EReal))
    (b : Fin 2) (n : Fin 8) (d : Fin 64) (q : Fin 16384) : ∃ x : Fin 16384 → ℝ,
    (∀ s, (x s : EReal) = ∑ e : Fin 96, K (ix4 b n s e) * Q (ix4 b n q e)) ∧
    REF Q K V (ix4 b n d q) = Ideal.div (∑ s : Fin 16384, V (ix4 b n s d) * (Real.exp (x s / Real.sqrt 96) : EReal)) (∑ s : Fin 16384, (Real.exp (x s / Real.sqrt 96) : EReal)) := by
  choose Qr hQr using hQ
  choose Kr hKr using hK
  have hdot : ∀ (b : Fin 2) (n : Fin 8) (q s : Fin 16384), ∑ e : Fin 96, K (ix4 b n s e) * Q (ix4 b n q e)
      = ((∑ e : Fin 96, Kr (ix4 b n s e) * Qr (ix4 b n q e) : ℝ) : EReal) := by
    intro b n q s
    rw [Cert.Soft.coe_sum]
    exact Finset.sum_congr rfl fun e _ => by rw [EReal.coe_mul, ← hKr, ← hQr]
  have hSC : ∀ (b : Fin 2) (n : Fin 8) (q s : Fin 16384), SC Q K (ix4 b n q s)
      = (((∑ e : Fin 96, Kr (ix4 b n s e) * Qr (ix4 b n q e)) / Real.sqrt 96 : ℝ) : EReal) := by
    intro b n q s
    have e : (∑ e : Fin 96, Kr (ix4 b n s e) * Qr (ix4 b n q e)) / Real.sqrt 96
        = (∑ e : Fin 96, Kr (ix4 b n s e) * Qr (ix4 b n q e)) * (1 / Real.sqrt 96) := (mul_one_div _ _).symm
    rw [SC_at, root, Ideal.div_coe Cert.Soft.sqrt_ne, e, EReal.coe_mul, ← hdot]
    exact congrArg (· * _) (Finset.sum_congr rfl fun e _ => mul_comm _ _)
  obtain ⟨μ, hμ⟩ := MX_real Q K (fun i => by rw [eq_ix4 i]; exact ⟨_, hSC _ _ _ _⟩) (ix3 b n q)
  refine ⟨fun s => ∑ e : Fin 96, Kr (ix4 b n s e) * Qr (ix4 b n q e), fun s => (hdot _ _ _ _).symm, ?_⟩
  have hEX : ∀ s, EX Q K (ix4 b n q s)
      = (Real.exp ((∑ e : Fin 96, Kr (ix4 b n s e) * Qr (ix4 b n q e)) / Real.sqrt 96 - μ) : EReal) := by
    intro s
    rw [EX_at, hμ, hSC, ← EReal.coe_sub, Ideal.exp_coe]
  have hsum : ∑ s, EX Q K (ix4 b n q s)
      = ∑ s, (Real.exp ((∑ e : Fin 96, Kr (ix4 b n s e) * Qr (ix4 b n q e)) / Real.sqrt 96 - μ) : EReal) := Finset.sum_congr rfl fun s _ => hEX s
  rw [REF_at, Cert.Soft.attend (by norm_num) _ _ μ]
  refine Finset.sum_congr rfl fun s _ => ?_
  rw [SM_at, hEX, hsum]

end Cert.Reference2Ideal.Att

end
-- ==== Proof.MlaValue.lean ====
module

public import proofs.«01_k».proof.Proof.MlaPure
public import proofs.«01_k».proof.Proof.MlaHost
public import proofs.«01_k».proof.Proof.MlaRefer

@[expose] public section

set_option maxRecDepth 16384

noncomputable section

/-! The latent attention's result array is the reference's term of its arguments. -/

namespace Cert.Kernel2Ideal.Att

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The reference's result, of the kernel's arguments. -/
abbrev REF (Q K : FVec Ideal S2x8x16384x96 .f32) (V : FVec Ideal S2x8x16384x64 .f32) : FVec Ideal S2x8x64x16384 .bf16 :=
  Cert.Reference2Ideal.Att.REF Q K V

/-- Every query and every key is finite. -/
def Finite (Q K : FVec Ideal S2x8x16384x96 .f32) : Prop :=
  (∀ i, ∃ r : ℝ, Q i = (r : EReal)) ∧ (∀ i, ∃ r : ℝ, K i = (r : EReal))

/-- What a grid point stores at an index of its block is the reference's result at the array index it is placed at. -/
theorem point (c : Dev nD) (h : Finite (m ((c : Thread nD τ).loc main_arg0)) (m ((c : Thread nD τ).loc main_arg1)))
    (t : Fin cfg0.N) (z z' : Fin 1) (d : Fin 64) (x : Fin 2048) :
    outVal (F := Ideal) (iblk m c 0 t) (iblk m c 1 t) (iblk m c 2 t) (ix4 z z' d x)
      = REF (m ((c : Thread nD τ).loc main_arg0)) (m ((c : Thread nD τ).loc main_arg1)) (m ((c : Thread nD τ).loc main_arg2))
          (ix4 ⟨t.val / 64, by have := tlt t; omega⟩ ⟨t.val / 8 % 8, by omega⟩ d ⟨2048 * (t.val % 8) + x.val, by omega⟩) := by
  obtain ⟨y, hy, hR⟩ := Cert.Reference2Ideal.Att.REF_eq (m ((c : Thread nD τ).loc main_arg0)) (m ((c : Thread nD τ).loc main_arg1)) (m ((c : Thread nD τ).loc main_arg2)) h.1 h.2
    ⟨t.val / 64, by have := tlt t; omega⟩ ⟨t.val / 8 % 8, by omega⟩ d ⟨2048 * (t.val % 8) + x.val, by omega⟩
  have hs : ∀ s : Fin 16384, (⟨(⟨s.val / 512, by omega⟩ : Fin 32).val * 512 + (⟨s.val % 512, by omega⟩ : Fin 512).val, by show s.val / 512 * 512 + s.val % 512 < 16384; omega⟩ : Fin 16384) = s :=
    fun s => Fin.ext (by show s.val / 512 * 512 + s.val % 512 = s.val; omega)
  have hw : ∀ s : Fin 16384, wt (iblk m c 0 t) (iblk m c 1 t) ⟨s.val / 512, by omega⟩ ⟨s.val % 512, by omega⟩ x = (Real.exp (y s / Real.sqrt 96) : EReal) := by
    intro s
    rw [← Cert.Soft.exp2_scale_of Cert.Soft.sqrt_ne, hy]
    refine (wt_eq _ _ _ _ _ _ _ (fun e => iblk_k m c t 0 0 _ _ e) (fun e => iblk_q m c t 0 0 e x)).trans ?_
    rw [dot_at, hs]
  have hv : ∀ s : Fin 16384, (iblk m c 2 t : FVec Ideal S1x1x32x64x512 .bf16) (ix5 0 0 ⟨s.val / 512, by omega⟩ d ⟨s.val % 512, by omega⟩)
      = (m ((c : Thread nD τ).loc main_arg2) : FVec Ideal S2x8x16384x64 .f32) (ix4 ⟨t.val / 64, by have := tlt t; omega⟩ ⟨t.val / 8 % 8, by omega⟩ s d) := by
    intro s
    rw [iblk_v, VT_at, hs]
  refine (outVal_at _ _ _ z z' d x).trans (Eq.trans ?_ hR.symm)
  exact congrArg₂ Ideal.div (Finset.sum_congr rfl fun s _ => congrArg₂ (· * ·) (hv s) (hw s)) (Finset.sum_congr rfl fun s _ => hw s)

/-- The result array after the run is the reference's term of the arguments. -/
theorem final (c : Dev nD) (h : Finite (m ((c : Thread nD τ).loc main_arg0)) (m ((c : Thread nD τ).loc main_arg1))) :
    (dats m 0 c).arrAt 3 (cfgs 0).N
      = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold outsAt0
  idx_vars y
  refine (point m c h t _ _ _ _).trans ?_
  refine congrArg (REF _ _ _) ?_
  blk_ext [idx t]

/-- The kernel's run: the result at the reference's term, the arguments as they were. -/
theorem run_value (ρ : Dev nD → PrngReg) (h : ∀ c : Dev nD, Finite (m ((c : Thread nD τ).loc main_arg0)) (m ((c : Thread nD τ).loc main_arg1))) :
    θ_run defs (onTc (τ := τ) (main (F := Ideal))) ⟨m, fun _ => 0, ρ⟩ fun r => ∀ c : Dev nD,
      r.2.mem ((c : Thread nD τ).loc main_v11)
          = REF (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r e c => ⟨((e c).1 3).trans (final m c (h c)),
      ((e c).2 main_arg0 (Pipeline.mem_restRefs_of main_arg0 (by decide) (by decide))).trans (V_main_arg0 m c),
      ((e c).2 main_arg1 (Pipeline.mem_restRefs_of main_arg1 (by decide) (by decide))).trans (V_main_arg1 m c),
      ((e c).2 main_arg2 (Pipeline.mem_restRefs_of main_arg2 (by decide) (by decide))).trans (V_main_arg2 m c)⟩)
    (run_main m ρ)

end Cert.Kernel2Ideal.Att

end
-- ==== Proof.FfnBody.lean ====
module

public import proofs.«01_k».proof.Proof.FfnRow
public import proofs.«01_k».proof.Proof.Gen.Kernel3Ideal.Value
public import Idealize.ShloMosaic.Lib.Pipeline.ValueKit

@[expose] public section

set_option maxRecDepth 16384

noncomputable section

/-! What the body of the feed-forward call stores, read at an index: each row of its block is a half step. -/

namespace Cert.Kernel3Ideal.Att

open Cert.Kernel3Ideal Cert.Kernel3Ideal.Gen
open Idealize.ShloMosaic Idealize.ShloMosaic.TcCoe

variable (x : FVec Ideal S512x1024 .f32) (g : FVec Ideal S1x1024 .f32) (h : FVec Ideal S512x1024 .bf16) (u w : FVec Ideal S1024x1408 .bf16)
  (o : FVec Ideal S1408x1024 .bf16)

/-- The normalised row. -/
theorem pay3_at (r : Fin 512) (k : Fin 1024) :
    k0_pay3 (F := Ideal) x g (ix2 r k) = Cert.Ffn.norm (fun k => x (ix2 r k)) (fun k => g (ix2 0 k)) k := by
  unfold Cert.Ffn.norm
  pointwise [k0_pay3, k0_pay2]

/-- The gate's product of the second half of the hidden channels. -/
theorem pay5_at (r : Fin 512) (f : Fin 1408) :
    k0_pay5 (F := Ideal) x g u (ix2 r f) = ∑ k : Fin 1024, k0_pay3 (F := Ideal) x g (ix2 r k) * u (ix2 k f) := by
  pointwise [k0_pay5]

/-- The sum over the first half of the hidden channels. -/
theorem pay4_at (r : Fin 512) (n : Fin 1024) :
    k0_pay4 (F := Ideal) x g u w o (ix2 r n) = ∑ f : Fin 1408, ((∑ k : Fin 1024, k0_pay3 (F := Ideal) x g (ix2 r k) * u (ix2 k f))
      * Ideal.logistic (∑ k : Fin 1024, k0_pay3 (F := Ideal) x g (ix2 r k) * u (ix2 k f)) * ∑ k : Fin 1024, k0_pay3 (F := Ideal) x g (ix2 r k) * w (ix2 k f)) * o (ix2 f n) := by
  pointwise [k0_pay4]

/-- The stored row, from the sum over the first half of the hidden channels and the gate's product of the second. -/
theorem pay1_at (a : FVec Ideal S512x1024 .f32) (q : FVec Ideal S512x1408 .f32) (r : Fin 512) (n : Fin 1024) :
    k0_pay1 (F := Ideal) x h a q w o (ix2 r n) = x (ix2 r n) + Ideal.ofBits .f32 0x3F000000#32 * (a (ix2 r n)
      + ∑ f : Fin 1408, (q (ix2 r f) * Ideal.logistic (q (ix2 r f)) * ∑ k : Fin 1024, h (ix2 r k) * w (ix2 k f)) * o (ix2 f n)) := by
  pointwise [k0_pay1]

/-- The stored row from the six halves of the weights that the body loads. -/
theorem halves_at (x0 : FVec Ideal S512x1024 .f32) (x1 : FVec Ideal S1x1024 .f32) (x2 x3 : FVec Ideal S1024x2816 .bf16) (x4 : FVec Ideal S2816x1024 .bf16)
    (u u' w w' : FVec Ideal S1024x1408 .bf16) (o o' : FVec Ideal S1408x1024 .bf16) (r : Fin 512) (n : Fin 1024)
    (hu : ∀ k f, u (ix2 k f) = x2 (ix2 k ⟨f.val, by omega⟩)) (hu' : ∀ k f, u' (ix2 k f) = x2 (ix2 k ⟨1408 + f.val, by omega⟩))
    (hw : ∀ k f, w (ix2 k f) = x3 (ix2 k ⟨f.val, by omega⟩)) (hw' : ∀ k f, w' (ix2 k f) = x3 (ix2 k ⟨1408 + f.val, by omega⟩))
    (ho : ∀ f, o (ix2 f n) = x4 (ix2 ⟨f.val, by omega⟩ n)) (ho' : ∀ f, o' (ix2 f n) = x4 (ix2 ⟨1408 + f.val, by omega⟩ n)) :
    k0_pay1 (F := Ideal) x0 (k0_pay3 x0 x1) (k0_pay4 x0 x1 u w o) (k0_pay5 x0 x1 u') w' o' (ix2 r n)
      = Cert.Ffn.row (fun k => x0 (ix2 r k)) (fun k => x1 (ix2 0 k)) (fun f k => x2 (ix2 k f)) (fun f k => x3 (ix2 k f)) (fun f => x4 (ix2 f n)) n := by
  rw [pay1_at]
  unfold Cert.Ffn.row
  rw [Fin.sum_univ_two_halves (N := 2816) 1408 1408 (by norm_num)]
  simp only [pay4_at, pay5_at, pay3_at, hu, hu', hw, hw', ho, ho', Cert.Ffn.act]

/-- What the body stores at an index of its block is the half step of the block's row. -/
theorem out_at (x0 : FVec Ideal S512x1024 .f32) (x1 : FVec Ideal S1x1024 .f32) (x2 x3 : FVec Ideal S1024x2816 .bf16) (x4 : FVec Ideal S2816x1024 .bf16)
    (r : Fin 512) (n : Fin 1024) :
    out0_5 (F := Ideal) x0 x1 x2 x3 x4 (ix2 r n) = Cert.Ffn.row (fun k => x0 (ix2 r k)) (fun k => x1 (ix2 0 k))
      (fun f k => x2 (ix2 k f)) (fun f k => x3 (ix2 k f)) (fun f => x4 (ix2 f n)) n := by
  have hz : (![0, 0] : Fin 2 → ℕ) = fun _ => 0 := by decide
  have e0 : View.ld (Val := Elt Ideal) (e' := .f32) x0 r0_0 = x0 := by
    unfold r0_0; exact View.ld_unit_zero hz _ _
  have e1 : View.ld (Val := Elt Ideal) (e' := .f32) x1 r0_1 = x1 := by
    unfold r0_1; exact View.ld_unit_zero hz _ _
  have hp6 : ∀ z : FVec Ideal S1024x1408 .bf16, k0_pay6 (F := Ideal) z = z := by
    intro z; funext i; idx_vars i; pointwise [k0_pay6]
  have hp2 : k0_pay2 (F := Ideal) x0 = x0 := by
    funext i; idx_vars i; pointwise [k0_pay2]
  unfold out0_5
  rw [e0, e1, hp6, hp2]
  unfold r0_0
  refine (congrFun (View.canon_unit_zero hz _ _) _).trans ?_
  refine halves_at x0 x1 x2 x3 x4 _ _ _ _ _ _ r n ?_ ?_ ?_ ?_ ?_ ?_
  · intro k f; refine congrArg x2 ?_; idx_ext
  · intro k f; refine congrArg x2 ?_; idx_ext
  · intro k f; refine congrArg x3 ?_; idx_ext
  · intro k f; refine congrArg x3 ?_; idx_ext
  · intro f; refine congrArg x4 ?_; idx_ext
  · intro f; refine congrArg x4 ?_; idx_ext

end Cert.Kernel3Ideal.Att

end
-- ==== Proof.FfnRefer.lean ====
module

public import proofs.«01_k».proof.Proof.FfnRow
public import proofs.«01_k».proof.Proof.Gen.Reference3Ideal.Run
public import Idealize.ShloMosaic.Lib.IdealHost

@[expose] public section

set_option maxRecDepth 16384

noncomputable section

/-! The feed-forward reference's result, read at an index: each row is a half step. -/

namespace Cert.Reference3Ideal.Att

open Cert.Reference3Ideal Cert.Reference3Ideal.Gen
open Idealize.ShloMosaic Idealize.ShloMosaic.TcCoe

variable (X : FVec Ideal S2x16384x1024 .f32) (G : FVec Ideal S1024 .f32) (WI : FVec Ideal S1024x5632 .f32) (WO : FVec Ideal S2816x1024 .f32)

/-- The normalised activations. -/
def NRM : FVec Ideal S2x16384x1024 .f32 :=
  mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 G))

/-- The first product, of both halves of the weights. -/
def PR : FVec Ideal S2x16384x5632 .f32 :=
  Host.dotGeneral dot_S2x16384x1024_S1024x5632_S2x16384x5632_2_0_01_1_n_n none (NRM X G) WI

/-- Its gate half. -/
def GT : FVec Ideal S2x16384x2816 .f32 := extractStridedSlice S2x16384x2816 ![0, 0, 0] (PR X G WI) slices_S2x16384x5632_S2x16384x2816_0_0_0

/-- The gated product. -/
def ACT : FVec Ideal S2x16384x2816 .f32 :=
  mulf (mulf (GT X G WI) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (GT X G WI))))))
    (extractStridedSlice S2x16384x2816 ![0, 0, 2816] (PR X G WI) slices_S2x16384x5632_S2x16384x2816_0_0_2816)

/-- The reference's result. -/
def REF : FVec Ideal S32768x1024 .f32 :=
  shapeCast _ (addf X (mulf (broadcastInDim S2x16384x1024 ![] bcast_S_S2x16384x1024 (constant S_ .f32 0x3F000000#32)) (Host.dotGeneral dot_S2x16384x2816_S2816x1024_S2x16384x1024_2_0_01_1_n_n none (ACT X G WI) WO))) shapeCasts_S2x16384x1024_S32768x1024

/-- An entry of the normalized rows. -/
theorem NRM_at (b : Fin 2) (s : Fin 16384) (k : Fin 1024) : NRM X G (ix3 b s k) = Cert.Ffn.norm (fun k => X (ix3 b s k)) (fun k => G (ix1 k)) k := by
  unfold Cert.Ffn.norm
  pointwise [NRM]

/-- An entry of the projection. -/
theorem PR_at (b : Fin 2) (s : Fin 16384) (f : Fin 5632) : PR X G WI (ix3 b s f) = ∑ k : Fin 1024, NRM X G (ix3 b s k) * WI (ix2 k f) := by
  pointwise [PR]

/-- An entry of the gate half of the projection. -/
theorem GT_at (b : Fin 2) (s : Fin 16384) (f : Fin 2816) : GT X G WI (ix3 b s f) = PR X G WI (ix3 b s ⟨f.val, by omega⟩) := by
  pointwise [GT]

/-- An entry of the hidden channels. -/
theorem ACT_at (b : Fin 2) (s : Fin 16384) (f : Fin 2816) : ACT X G WI (ix3 b s f)
    = GT X G WI (ix3 b s f) * Ideal.div (Ideal.ofBits .f32 0x3F800000#32) (Ideal.ofBits .f32 0x3F800000#32 + Ideal.exp (-GT X G WI (ix3 b s f))) * PR X G WI (ix3 b s ⟨2816 + f.val, by omega⟩) := by
  pointwise [ACT]

/-- An entry of the result of the reference. -/
theorem REF_at (j : Fin 32768) (n : Fin 1024) : REF X G WI WO (ix2 j n)
    = X (ix3 ⟨j.val / 16384, by omega⟩ ⟨j.val % 16384, by omega⟩ n) + Ideal.ofBits .f32 0x3F000000#32
      * ∑ f : Fin 2816, ACT X G WI (ix3 ⟨j.val / 16384, by omega⟩ ⟨j.val % 16384, by omega⟩ f) * WO (ix2 f n) := by
  pointwise [REF]

/-- Each row of the reference's result is the half step of the row of its activations. -/
theorem REF_eq (j : Fin 32768) (n : Fin 1024) : REF X G WI WO (ix2 j n)
    = Cert.Ffn.row (fun k => X (ix3 ⟨j.val / 16384, by omega⟩ ⟨j.val % 16384, by omega⟩ k)) (fun k => G (ix1 k))
        (fun f k => WI (ix2 k ⟨f.val, by omega⟩)) (fun f k => WI (ix2 k ⟨2816 + f.val, by omega⟩)) (fun f => WO (ix2 f n)) n := by
  rw [REF_at]
  unfold Cert.Ffn.row
  simp only [ACT_at, GT_at, PR_at, NRM_at, Ideal.ofBits_one_f32, Cert.Ffn.act, Ideal.logistic]

end Cert.Reference3Ideal.Att

end
-- ==== Proof.FfnValue.lean ====
module

public import proofs.«01_k».proof.Proof.FfnBody
public import proofs.«01_k».proof.Proof.FfnRefer

@[expose] public section

set_option maxRecDepth 16384

noncomputable section

/-! The feed-forward call's result array is the reference's term of its arguments. -/

namespace Cert.Kernel3Ideal.Att

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

/-- The activations, all rows in one axis. -/
def XX (X : FVec Ideal S2x16384x1024 .f32) : FVec Ideal S32768x1024 .f32 := shapeCast _ X shapeCasts_S2x16384x1024_S32768x1024
/-- The gains, as one row. -/
def GG (G : FVec Ideal S1024 .f32) : FVec Ideal S1x1024 .f32 := shapeCast _ G shapeCasts_S1024_S1x1024
/-- The gate's weights. -/
def WG (W : FVec Ideal S1024x5632 .f32) : FVec Ideal S1024x2816 .bf16 :=
  truncf .bf16 (extractStridedSlice S1024x2816 ![0, 0] W slices_S1024x5632_S1024x2816_0_0) bitsLt_bf16_f32
/-- The other half of the first weights. -/
def WU (W : FVec Ideal S1024x5632 .f32) : FVec Ideal S1024x2816 .bf16 :=
  truncf .bf16 (extractStridedSlice S1024x2816 ![0, 2816] W slices_S1024x5632_S1024x2816_0_2816) bitsLt_bf16_f32
/-- The second weights. -/
def WW (W : FVec Ideal S2816x1024 .f32) : FVec Ideal S2816x1024 .bf16 := truncf .bf16 W bitsLt_bf16_f32

/-- The rows the call is given. -/
theorem V_x (c : Dev nD) : V m c main_v0 = XX (m ((c : Thread nD τ).loc main_arg0)) := by
  entry_read
  rfl

/-- The gains the call is given. -/
theorem V_g (c : Dev nD) : V m c main_v5 = GG (m ((c : Thread nD τ).loc main_arg1)) := by
  entry_read
  rfl

/-- The gate weights the call is given. -/
theorem V_wg (c : Dev nD) : V m c main_v2 = WG (m ((c : Thread nD τ).loc main_arg2)) := by
  entry_read
  rfl

/-- The up weights the call is given. -/
theorem V_wu (c : Dev nD) : V m c main_v4 = WU (m ((c : Thread nD τ).loc main_arg2)) := by
  entry_read
  rfl

/-- The down weights the call is given. -/
theorem V_ww (c : Dev nD) : V m c main_v6 = WW (m ((c : Thread nD τ).loc main_arg3)) := by
  entry_read
  rfl

/-- An entry of the rows. -/
theorem XX_at (X : FVec Ideal S2x16384x1024 .f32) (j : Fin 32768) (k : Fin 1024) :
    XX X (ix2 j k) = X (ix3 ⟨j.val / 16384, by omega⟩ ⟨j.val % 16384, by omega⟩ k) := by
  pointwise [XX]

/-- An entry of the gains. -/
theorem GG_at (G : FVec Ideal S1024 .f32) (z : Fin 1) (k : Fin 1024) : GG G (ix2 z k) = G (ix1 k) := by
  pointwise [GG]

/-- An entry of the gate weights. -/
theorem WG_at (W : FVec Ideal S1024x5632 .f32) (k : Fin 1024) (f : Fin 2816) : WG W (ix2 k f) = W (ix2 k ⟨f.val, by omega⟩) := by
  pointwise [WG]

/-- An entry of the up weights. -/
theorem WU_at (W : FVec Ideal S1024x5632 .f32) (k : Fin 1024) (f : Fin 2816) : WU W (ix2 k f) = W (ix2 k ⟨2816 + f.val, by omega⟩) := by
  pointwise [WU]

/-- An entry of the down weights. -/
theorem WW_at (W : FVec Ideal S2816x1024 .f32) (f : Fin 2816) (n : Fin 1024) : WW W (ix2 f n) = W (ix2 f n) := by
  pointwise [WW]

/-- Which block each window is at, at every grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ t.val < 64 :=
  (by decide +kernel : ∀ t : Fin grid0.N, _)

/-- The number of grid points. -/
theorem tlt (t : Fin cfg0.N) : t.val < 64 := (idx t).2.2.2.2.2.2

/-- An entry of the block of rows of a grid point. -/
theorem iblk_x (c : Dev nD) (t : Fin cfg0.N) (r : Fin 512) (k : Fin 1024) : (iblk m c 0 t : FVec Ideal S512x1024 .f32) (ix2 r k)
    = XX (m ((c : Thread nD τ).loc main_arg0)) (ix2 ⟨512 * t.val + r.val, by have := tlt t; omega⟩ k) := by
  rw [← V_x]
  blk_ext [iblk, idx t]

/-- An entry of the gains at a grid point. -/
theorem iblk_g (c : Dev nD) (t : Fin cfg0.N) (z : Fin 1) (k : Fin 1024) : (iblk m c 1 t : FVec Ideal S1x1024 .f32) (ix2 z k)
    = GG (m ((c : Thread nD τ).loc main_arg1)) (ix2 z k) := by
  rw [← V_g]
  blk_ext [iblk, idx t]

/-- An entry of the gate weights at a grid point. -/
theorem iblk_wg (c : Dev nD) (t : Fin cfg0.N) (k : Fin 1024) (f : Fin 2816) : (iblk m c 2 t : FVec Ideal S1024x2816 .bf16) (ix2 k f)
    = WG (m ((c : Thread nD τ).loc main_arg2)) (ix2 k f) := by
  rw [← V_wg]
  blk_ext [iblk, idx t]

/-- An entry of the up weights at a grid point. -/
theorem iblk_wu (c : Dev nD) (t : Fin cfg0.N) (k : Fin 1024) (f : Fin 2816) : (iblk m c 3 t : FVec Ideal S1024x2816 .bf16) (ix2 k f)
    = WU (m ((c : Thread nD τ).loc main_arg2)) (ix2 k f) := by
  rw [← V_wu]
  blk_ext [iblk, idx t]

/-- An entry of the down weights at a grid point. -/
theorem iblk_ww (c : Dev nD) (t : Fin cfg0.N) (f : Fin 2816) (n : Fin 1024) : (iblk m c 4 t : FVec Ideal S2816x1024 .bf16) (ix2 f n)
    = WW (m ((c : Thread nD τ).loc main_arg3)) (ix2 f n) := by
  rw [← V_ww]
  blk_ext [iblk, idx t]

/-- The reference's result, of the kernel's arguments. -/
abbrev REF (X : FVec Ideal S2x16384x1024 .f32) (G : FVec Ideal S1024 .f32) (WI : FVec Ideal S1024x5632 .f32) (WO : FVec Ideal S2816x1024 .f32) :
    FVec Ideal S32768x1024 .f32 := Cert.Reference3Ideal.Att.REF X G WI WO

/-- Equal rows, gains and weights give equal half steps. -/
theorem row_congr {x x' g g' : Fin 1024 → EReal} {u u' w w' : Fin 2816 → Fin 1024 → EReal} {o o' : Fin 2816 → EReal} (n : Fin 1024)
    (hx : ∀ k, x k = x' k) (hg : ∀ k, g k = g' k) (hu : ∀ f k, u f k = u' f k) (hw : ∀ f k, w f k = w' f k) (ho : ∀ f, o f = o' f) :
    Cert.Ffn.row x g u w o n = Cert.Ffn.row x' g' u' w' o' n := by
  rw [funext hx, funext hg, funext fun f => funext (hu f), funext fun f => funext (hw f), funext ho]

/-- What a grid point stores at an index of its block is the reference's result at the array index it is placed at. -/
theorem point (c : Dev nD) (t : Fin cfg0.N) (r : Fin 512) (n : Fin 1024) :
    out0_5 (F := Ideal) (iblk m c 0 t) (iblk m c 1 t) (iblk m c 2 t) (iblk m c 3 t) (iblk m c 4 t) (ix2 r n)
      = REF (m ((c : Thread nD τ).loc main_arg0)) (m ((c : Thread nD τ).loc main_arg1)) (m ((c : Thread nD τ).loc main_arg2)) (m ((c : Thread nD τ).loc main_arg3))
          (ix2 ⟨512 * t.val + r.val, by have := tlt t; omega⟩ n) := by
  refine (out_at _ _ _ _ _ r n).trans (Eq.trans ?_ (Cert.Reference3Ideal.Att.REF_eq _ _ _ _ _ _).symm)
  exact row_congr n (fun k => (iblk_x m c t r k).trans (XX_at _ _ _)) (fun k => (iblk_g m c t 0 k).trans (GG_at _ _ _))
    (fun f k => (iblk_wg m c t k f).trans (WG_at _ _ _)) (fun f k => (iblk_wu m c t k f).trans (WU_at _ _ _)) (fun f => (iblk_ww m c t f n).trans (WW_at _ _ _))

/-- The result array after the run is the reference's term of the arguments. -/
theorem final (c : Dev nD) : (dats m 0 c).arrAt 5 cfg0.N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  refine (point m c t _ _).trans ?_
  refine congrArg (REF _ _ _ _) ?_
  blk_ext [idx t]

/-- The call's run: the result at the reference's term, the arguments as they were. -/
theorem run_value (ρ : Dev nD → PrngReg) :
    θ_run defs (onTc (τ := τ) (main (F := Ideal))) ⟨m, fun _ => 0, ρ⟩ fun r => ∀ c : Dev nD,
      r.2.mem ((c : Thread nD τ).loc main_v7)
          = REF (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r e c => ⟨(e c).1.trans (final m c), (e c).2⟩) (Cert.Kernel3Ideal.Value.run_blocks m ρ)

end Cert.Kernel3Ideal.Att

end
-- ==== Proof.MergeRow.lean ====
module

public import proofs.«01_k».proof.Proof.FfnRow

@[expose] public section

noncomputable section

/-! One row of the merge: the row normalised, four branches, each gated, their sum projected and added to the row. -/

namespace Cert.Merge

open Idealize.ShloMosaic

variable (x g : Fin 1024 → EReal)

/-- The smooth rectifier with the hyperbolic tangent. -/
def gelu (z : EReal) : EReal :=
  Ideal.ofBits .f32 0x3F000000#32 * z * (Ideal.ofBits .f32 0x3F800000#32
    + Ideal.tanh (Ideal.ofBits .f32 0x3F4C422A#32 * (z + Ideal.ofBits .f32 0x3D372713#32 * (z * z * z))))

/-- One gated branch in one channel: `u` is the channel's column of the gate's weights, `w` of the branch's. -/
def gated (u : Fin 1024 → EReal) (o w : Fin 512 → EReal) : EReal :=
  Ideal.logistic (∑ k, Ffn.norm x g k * u k) * ∑ c, o c * w c

/-- The recurrence's branch in one channel: `l` is the channel's column of its gate's weights. -/
def last (l : Fin 1024 → EReal) (f b : EReal) : EReal := gelu (∑ k, Ffn.norm x g k * l k) * (f + b)

/-- The merged branches in one channel. -/
def mix (a b c p q : Fin 512 → EReal) (l : Fin 512 → Fin 1024 → EReal) (u : Fin 4 → Fin 1024 → EReal) (w : Fin 4 → Fin 512 → EReal) : EReal :=
  gated x g (u 0) a (w 0) + gated x g (u 1) b (w 1) + gated x g (u 2) c (w 2)
    + gated x g (u 3) (fun e => last x g (l e) (p e) (q e)) (w 3)

/-- The merge in one channel: `u n d` and `w n d` are the columns of branch `n` and inner channel `d`, `o d` its weight. -/
def row (a b c p q : Fin 512 → EReal) (l : Fin 512 → Fin 1024 → EReal) (u : Fin 4 → Fin 1024 → Fin 1024 → EReal)
    (w : Fin 4 → Fin 1024 → Fin 512 → EReal) (o : Fin 1024 → EReal) (n : Fin 1024) : EReal :=
  x n + ∑ d, mix x g a b c p q l (fun i => u i d) (fun i => w i d) * o d

end Cert.Merge

end
-- ==== Proof.MergeBody.lean ====
module

public import proofs.«01_k».proof.Proof.MergeRow
public import proofs.«01_k».proof.Proof.Gen.Kernel4Ideal.Value
public import Idealize.ShloMosaic.Lib.Pipeline.ValueKit

@[expose] public section

set_option maxRecDepth 16384

noncomputable section

/-! What the body of the merge stores, read at an index: each row of its block is a merge. -/

namespace Cert.Kernel4Ideal.Att

open Cert.Kernel4Ideal Cert.Kernel4Ideal.Gen
open Idealize.ShloMosaic Idealize.ShloMosaic.TcCoe

variable (x : FVec Ideal S1x512x1024 .f32) (g : FVec Ideal S1x1024 .f32)

/-- The normalised row. -/
theorem pay3_at (r : Fin 512) (k : Fin 1024) :
    k0_pay3 (F := Ideal) x g (ix2 r k) = Cert.Ffn.norm (fun k => x (ix3 0 r k)) (fun k => g (ix2 0 k)) k := by
  unfold Cert.Ffn.norm
  pointwise [k0_pay3, k0_pay2]

/-- The gate of the recurrence's branch. -/
theorem pay4_at (l : FVec Ideal S1024x512 .bf16) (r e : Fin 512) :
    k0_pay4 (F := Ideal) x g l (ix2 r e) = Cert.Merge.gelu (∑ k : Fin 1024, k0_pay3 (F := Ideal) x g (ix2 r k) * l (ix2 k e)) := by
  unfold Cert.Merge.gelu
  pointwise [k0_pay4]

/-- The second branch's product. -/
theorem pay7_at (b : FVec Ideal S1x512x512 .bf16) (w : FVec Ideal S1x512x1024 .bf16) (r : Fin 512) (d : Fin 1024) :
    k0_pay7 (F := Ideal) b w (ix2 r d) = ∑ e : Fin 512, b (ix3 0 r e) * w (ix3 0 e d) := by
  pointwise [k0_pay7]

/-- The third branch's product: the branch is given with its channels first. -/
theorem pay8_at (b : FVec Ideal S1x512x512 .bf16) (w : FVec Ideal S1x512x1024 .bf16) (r : Fin 512) (d : Fin 1024) :
    k0_pay8 (F := Ideal) b w (ix2 r d) = ∑ e : Fin 512, b (ix3 0 e r) * w (ix3 0 e d) := by
  pointwise [k0_pay8]

/-- The recurrence's branch times its weights. -/
theorem pay9_at (z p q : FVec Ideal S512x512 .f32) (w : FVec Ideal S1x512x1024 .bf16) (r : Fin 512) (d : Fin 1024) :
    k0_pay9 (F := Ideal) z p q w (ix2 r d) = ∑ e : Fin 512, (z (ix2 r e) * (p (ix2 r e) + q (ix2 r e))) * w (ix3 0 e d) := by
  pointwise [k0_pay9]

/-- The first gated branch: the branch is given with its channels first. -/
theorem pay10_at (h : FVec Ideal S512x1024 .bf16) (b : FVec Ideal S1x512x512 .bf16) (w : FVec Ideal S1x512x1024 .bf16) (u : FVec Ideal S1024x1024 .bf16)
    (r : Fin 512) (d : Fin 1024) :
    k0_pay10 (F := Ideal) h b w u (ix2 r d)
      = Ideal.logistic (∑ k : Fin 1024, h (ix2 r k) * u (ix2 k d)) * ∑ e : Fin 512, b (ix3 0 e r) * w (ix3 0 e d) := by
  pointwise [k0_pay10]

/-- The stored row, from the first gated branch and the other branches' products. -/
theorem pay1_at (y : FVec Ideal S512x1024 .f32) (h : FVec Ideal S512x1024 .bf16) (y1 y2 y3 s : FVec Ideal S512x1024 .f32)
    (u1 u2 u3 o : FVec Ideal S1024x1024 .bf16) (r : Fin 512) (n : Fin 1024) :
    k0_pay1 (F := Ideal) y h y1 y2 y3 s u1 u2 u3 o (ix3 0 r n) = y (ix2 r n) + ∑ d : Fin 1024, (s (ix2 r d)
      + Ideal.logistic (∑ k : Fin 1024, h (ix2 r k) * u1 (ix2 k d)) * y1 (ix2 r d)
      + Ideal.logistic (∑ k : Fin 1024, h (ix2 r k) * u2 (ix2 k d)) * y2 (ix2 r d)
      + Ideal.logistic (∑ k : Fin 1024, h (ix2 r k) * u3 (ix2 k d)) * y3 (ix2 r d)) * o (ix2 d n) := by
  pointwise [k0_pay1]

/-- The row with its leading axis dropped. -/
theorem pay2_at (r : Fin 512) (n : Fin 1024) : k0_pay2 (F := Ideal) x (ix2 r n) = x (ix3 0 r n) := by
  pointwise [k0_pay2]

/-- The recurrence's first direction with its leading axis dropped. -/
theorem pay5_at (p : FVec Ideal S1x512x512 .f32) (r e : Fin 512) : k0_pay5 (F := Ideal) p (ix2 r e) = p (ix3 0 r e) := by
  pointwise [k0_pay5]

/-- The recurrence's second direction with its leading axis dropped. -/
theorem pay6_at (p : FVec Ideal S1x512x512 .f32) (r e : Fin 512) : k0_pay6 (F := Ideal) p (ix2 r e) = p (ix3 0 r e) := by
  pointwise [k0_pay6]

/-- The stored row from the parts of the weights that the body loads. -/
theorem parts_at (a b c : FVec Ideal S1x512x512 .bf16) (p q : FVec Ideal S1x512x512 .f32) (x7 : FVec Ideal S1024x4096 .bf16) (l : FVec Ideal S1024x512 .bf16)
    (x9 : FVec Ideal S4x512x1024 .bf16) (o : FVec Ideal S1024x1024 .bf16)
    (u0 u1 u2 u3 : FVec Ideal S1024x1024 .bf16) (w0 w1 w2 w3 : FVec Ideal S1x512x1024 .bf16) (r : Fin 512) (n : Fin 1024)
    (hu0 : ∀ k d, u0 (ix2 k d) = x7 (ix2 k ⟨1024 * (0 : Fin 4).val + d.val, by omega⟩)) (hu1 : ∀ k d, u1 (ix2 k d) = x7 (ix2 k ⟨1024 * (1 : Fin 4).val + d.val, by omega⟩))
    (hu2 : ∀ k d, u2 (ix2 k d) = x7 (ix2 k ⟨1024 * (2 : Fin 4).val + d.val, by omega⟩)) (hu3 : ∀ k d, u3 (ix2 k d) = x7 (ix2 k ⟨1024 * (3 : Fin 4).val + d.val, by omega⟩))
    (hw0 : ∀ e d, w0 (ix3 0 e d) = x9 (ix3 0 e d)) (hw1 : ∀ e d, w1 (ix3 0 e d) = x9 (ix3 1 e d))
    (hw2 : ∀ e d, w2 (ix3 0 e d) = x9 (ix3 2 e d)) (hw3 : ∀ e d, w3 (ix3 0 e d) = x9 (ix3 3 e d)) :
    k0_pay1 (F := Ideal) (k0_pay2 x) (k0_pay3 x g) (k0_pay7 b w1) (k0_pay8 c w2) (k0_pay9 (k0_pay4 x g l) (k0_pay5 p) (k0_pay6 q) w3)
        (k0_pay10 (k0_pay3 x g) a w0 u0) u1 u2 u3 o (ix3 0 r n)
      = Cert.Merge.row (fun k => x (ix3 0 r k)) (fun k => g (ix2 0 k)) (fun e => a (ix3 0 e r)) (fun e => b (ix3 0 r e)) (fun e => c (ix3 0 e r))
          (fun e => p (ix3 0 r e)) (fun e => q (ix3 0 r e)) (fun e k => l (ix2 k e)) (fun i d k => x7 (ix2 k ⟨1024 * i.val + d.val, by omega⟩))
          (fun i d e => x9 (ix3 i e d)) (fun d => o (ix2 d n)) n := by
  rw [pay1_at]
  unfold Cert.Merge.row Cert.Merge.mix Cert.Merge.gated Cert.Merge.last
  simp only [pay2_at, pay7_at, pay8_at, pay9_at, pay10_at, pay4_at, pay5_at, pay6_at, pay3_at, hu0, hu1, hu2, hu3, hw0, hw1, hw2, hw3]

/-- What the body stores at an index of its block is the merge of the block's row. -/
theorem out_at (x2 x3 x4 : FVec Ideal S1x512x512 .bf16) (x5 x6 : FVec Ideal S1x512x512 .f32) (x7 : FVec Ideal S1024x4096 .bf16) (x8 : FVec Ideal S1024x512 .bf16)
    (x9 : FVec Ideal S4x512x1024 .bf16) (x10 : FVec Ideal S1024x1024 .bf16) (r : Fin 512) (n : Fin 1024) :
    out0_11 (F := Ideal) x g x2 x3 x4 x5 x6 x7 x8 x9 x10 (ix3 0 r n)
      = Cert.Merge.row (fun k => x (ix3 0 r k)) (fun k => g (ix2 0 k)) (fun e => x2 (ix3 0 e r)) (fun e => x3 (ix3 0 r e)) (fun e => x4 (ix3 0 e r))
          (fun e => x5 (ix3 0 r e)) (fun e => x6 (ix3 0 r e)) (fun e k => x8 (ix2 k e)) (fun i d k => x7 (ix2 k ⟨1024 * i.val + d.val, by omega⟩))
          (fun i d e => x9 (ix3 i e d)) (fun d => x10 (ix2 d n)) n := by
  have hz : (![0, 0] : Fin 2 → ℕ) = fun _ => 0 := by decide
  have hz3 : (![0, 0, 0] : Fin 3 → ℕ) = fun _ => 0 := by decide
  have e0 : View.ld (Val := Elt Ideal) (e' := .f32) x r0_0 = x := by
    unfold r0_0; exact View.ld_unit_zero hz3 _ _
  have e1 : View.ld (Val := Elt Ideal) (e' := .f32) g r0_1 = g := by
    unfold r0_1; exact View.ld_unit_zero hz _ _
  have e3 : ∀ y : FVec Ideal S1x512x512 .bf16, View.ld (Val := Elt Ideal) (e' := .bf16) y r0_3 = y := fun y => by
    unfold r0_3; exact View.ld_unit_zero hz3 _ _
  have e3' : ∀ y : FVec Ideal S1x512x512 .f32, View.ld (Val := Elt Ideal) (e' := .f32) y r0_3 = y := fun y => by
    unfold r0_3; exact View.ld_unit_zero hz3 _ _
  have e8 : View.ld (Val := Elt Ideal) (e' := .bf16) x8 r0_2 = x8 := by
    unfold r0_2; exact View.ld_unit_zero hz _ _
  have e10 : View.ld (Val := Elt Ideal) (e' := .bf16) x10 r0_12 = x10 := by
    unfold r0_12; exact View.ld_unit_zero hz _ _
  unfold out0_11 k0_pay11
  rw [e0, e1, e3, e3, e3, e3', e3', e8, e10]
  unfold r0_0
  refine (congrFun (View.canon_unit_zero hz3 _ _) _).trans ?_
  refine parts_at x g x2 x3 x4 x5 x6 x7 x8 x9 x10 _ _ _ _ _ _ _ _ r n ?_ ?_ ?_ ?_ ?_ ?_ ?_ ?_
  · intro k d; refine congrArg x7 ?_; idx_ext
  · intro k d; refine congrArg x7 ?_; idx_ext
  · intro k d; refine congrArg x7 ?_; idx_ext
  · intro k d; refine congrArg x7 ?_; idx_ext
  · intro e d; refine congrArg x9 ?_; idx_ext
  · intro e d; refine congrArg x9 ?_; idx_ext
  · intro e d; refine congrArg x9 ?_; idx_ext
  · intro e d; refine congrArg x9 ?_; idx_ext

end Cert.Kernel4Ideal.Att

end
-- ==== Proof.MergeRefer.lean ====
module

public import proofs.«01_k».proof.Proof.MergeRow
public import proofs.«01_k».proof.Proof.Gen.Reference4Ideal.Run
public import Idealize.ShloMosaic.Lib.IdealHost

@[expose] public section

set_option maxRecDepth 16384

noncomputable section

/-! The merge reference's result, read at an index: each row is a merge. -/

namespace Cert.Reference4Ideal.Att

open Cert.Reference4Ideal Cert.Reference4Ideal.Gen
open Idealize.ShloMosaic Idealize.ShloMosaic.TcCoe

variable (X : FVec Ideal S2x16384x1024 .f32) (G : FVec Ideal S1024 .f32) (OA OB OC HF HB : FVec Ideal S2x16384x512 .f32)
  (WI : FVec Ideal S1024x8096 .f32) (WB : FVec Ideal S4x512x1024 .f32) (WO : FVec Ideal S1024x1024 .f32)

/-- The normalised activations. -/
def NRM : FVec Ideal S2x16384x1024 .f32 :=
  mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 G))

/-- The input projection. -/
def PR : FVec Ideal S2x16384x8096 .f32 :=
  Host.dotGeneral dot_S2x16384x1024_S1024x8096_S2x16384x8096_2_0_01_1_n_n none (NRM X G) WI

/-- The columns of the recurrence's gate. -/
def LG : FVec Ideal S2x16384x512 .f32 := extractStridedSlice S2x16384x512 ![0, 0, 2976] (PR X G WI) slices_S2x16384x8096_S2x16384x512_0_0_2976

/-- The columns of the branches' gates, by branch. -/
def GA : FVec Ideal S2x16384x4x1024 .f32 :=
  shapeCast _ (extractStridedSlice S2x16384x4096 ![0, 0, 4000] (PR X G WI) slices_S2x16384x8096_S2x16384x4096_0_0_4000) shapeCasts_S2x16384x4096_S2x16384x4x1024

/-- The recurrence's branch. -/
def OD : FVec Ideal S2x16384x512 .f32 :=
  mulf (mulf (LG X G WI) (mulf (broadcastInDim S2x16384x512 ![] bcast_S_S2x16384x512 (constant S_ .f32 0x3F000000#32)) (addf (broadcastInDim S2x16384x512 ![] bcast_S_S2x16384x512 (constant S_ .f32 0x3F800000#32)) (Host.tanh (mulf (broadcastInDim S2x16384x512 ![] bcast_S_S2x16384x512 (constant S_ .f32 0x3F4C422A#32)) (addf (LG X G WI) (mulf (broadcastInDim S2x16384x512 ![] bcast_S_S2x16384x512 (constant S_ .f32 0x3D372713#32)) (mulf (mulf (LG X G WI) (LG X G WI)) (LG X G WI))))))))) (addf HF HB)

/-- The four branches side by side. -/
def BR : FVec Ideal S2x16384x4x512 .f32 :=
  concatenate S2x16384x4x512 2 [⟨S2x16384x1x512, broadcastInDim S2x16384x1x512 ![0, 1, 3] bcast_S2x16384x512_S2x16384x1x512_0_1_3 OA⟩,
    ⟨S2x16384x1x512, broadcastInDim S2x16384x1x512 ![0, 1, 3] bcast_S2x16384x512_S2x16384x1x512_0_1_3 OB⟩,
    ⟨S2x16384x1x512, broadcastInDim S2x16384x1x512 ![0, 1, 3] bcast_S2x16384x512_S2x16384x1x512_0_1_3 OC⟩,
    ⟨S2x16384x1x512, broadcastInDim S2x16384x1x512 ![0, 1, 3] bcast_S2x16384x512_S2x16384x1x512_0_1_3 (OD X G HF HB WI)⟩]
    concatenates_S2x16384x1x512_S2x16384x1x512_S2x16384x1x512_S2x16384x1x512_S2x16384x4x512_d2

/-- The branches' products. -/
def YY : FVec Ideal S2x16384x4x1024 .f32 :=
  transpose S2x16384x4x1024 [2, 3, 0, 1] (Host.dotGeneral dot_S4x512x1024_S2x16384x4x512_S4x1024x2x16384_1_3_2_01_0_2 none WB (BR X G OA OB OC HF HB WI)) transposes_S4x1024x2x16384_S2x16384x4x1024_2_3_0_1

/-- The gated branches. -/
def GY : FVec Ideal S2x16384x4x1024 .f32 :=
  mulf (Host.divf (broadcastInDim S2x16384x4x1024 ![] bcast_S_S2x16384x4x1024 (constant S_ .f32 0x3F800000#32)) (addf (broadcastInDim S2x16384x4x1024 ![] bcast_S_S2x16384x4x1024 (constant S_ .f32 0x3F800000#32)) (Host.exp (Host.negf (GA X G WI)))))
    (YY X G OA OB OC HF HB WI WB)

/-- The merged branches. -/
def MG : FVec Ideal S2x16384x1024 .f32 :=
  Host.reduceAdd (GY X G OA OB OC HF HB WI WB) (constant S_ .f32 0x00000000#32) reducesTo_S2x16384x4x1024_S2x16384x1024_d2 h_S_

/-- The reference's result. -/
def REF : FVec Ideal S2x16384x1024 .f32 :=
  addf X (Host.dotGeneral dot_S2x16384x1024_S1024x1024_S2x16384x1024_2_0_01_1_n_n none (MG X G OA OB OC HF HB WI WB) WO)

/-- An entry of the normalised activations. -/
theorem NRM_at (b : Fin 2) (s : Fin 16384) (k : Fin 1024) : NRM X G (ix3 b s k) = Cert.Ffn.norm (fun k => X (ix3 b s k)) (fun k => G (ix1 k)) k := by
  unfold Cert.Ffn.norm
  pointwise [NRM]

/-- An entry of the input projection. -/
theorem PR_at (b : Fin 2) (s : Fin 16384) (f : Fin 8096) : PR X G WI (ix3 b s f) = ∑ k : Fin 1024, NRM X G (ix3 b s k) * WI (ix2 k f) := by
  pointwise [PR]

/-- An entry of the columns of the recurrence's gate. -/
theorem LG_at (b : Fin 2) (s : Fin 16384) (e : Fin 512) : LG X G WI (ix3 b s e) = PR X G WI (ix3 b s ⟨2976 + e.val, by omega⟩) := by
  pointwise [LG]

/-- An entry of the columns of the branches' gates. -/
theorem GA_at (b : Fin 2) (s : Fin 16384) (i : Fin 4) (d : Fin 1024) :
    GA X G WI (ix4 b s i d) = PR X G WI (ix3 b s ⟨4000 + (1024 * i.val + d.val), by omega⟩) := by
  pointwise [GA]
  refine congrArg (PR X G WI) ?_
  idx_ext

/-- An entry of the recurrence's branch. -/
theorem OD_at (b : Fin 2) (s : Fin 16384) (e : Fin 512) :
    OD X G HF HB WI (ix3 b s e) = Cert.Merge.gelu (LG X G WI (ix3 b s e)) * (HF (ix3 b s e) + HB (ix3 b s e)) := by
  unfold Cert.Merge.gelu
  rw [mul_comm (Ideal.ofBits .f32 0x3F000000#32) (LG X G WI (ix3 b s e)), mul_assoc (LG X G WI (ix3 b s e)) (Ideal.ofBits .f32 0x3F000000#32), Ideal.ofBits_one_f32]
  pointwise [OD]

/-- An entry of the first branch. -/
theorem BR_at0 (b : Fin 2) (s : Fin 16384) (e : Fin 512) : BR X G OA OB OC HF HB WI (ix4 b s 0 e) = OA (ix3 b s e) := by
  pointwise [BR]
/-- An entry of the second branch. -/
theorem BR_at1 (b : Fin 2) (s : Fin 16384) (e : Fin 512) : BR X G OA OB OC HF HB WI (ix4 b s 1 e) = OB (ix3 b s e) := by
  pointwise [BR]
/-- An entry of the third branch. -/
theorem BR_at2 (b : Fin 2) (s : Fin 16384) (e : Fin 512) : BR X G OA OB OC HF HB WI (ix4 b s 2 e) = OC (ix3 b s e) := by
  pointwise [BR]
/-- An entry of the fourth branch. -/
theorem BR_at3 (b : Fin 2) (s : Fin 16384) (e : Fin 512) : BR X G OA OB OC HF HB WI (ix4 b s 3 e) = OD X G HF HB WI (ix3 b s e) := by
  pointwise [BR]

/-- An entry of the branches' products. -/
theorem YY_at (b : Fin 2) (s : Fin 16384) (i : Fin 4) (d : Fin 1024) :
    YY X G OA OB OC HF HB WI WB (ix4 b s i d) = ∑ e : Fin 512, WB (ix3 i e d) * BR X G OA OB OC HF HB WI (ix4 b s i e) := by
  pointwise [YY]

/-- An entry of the gated branches. -/
theorem GY_at (b : Fin 2) (s : Fin 16384) (i : Fin 4) (d : Fin 1024) : GY X G OA OB OC HF HB WI WB (ix4 b s i d)
    = Ideal.div (Ideal.ofBits .f32 0x3F800000#32) (Ideal.ofBits .f32 0x3F800000#32 + Ideal.exp (-GA X G WI (ix4 b s i d))) * YY X G OA OB OC HF HB WI WB (ix4 b s i d) := by
  pointwise [GY]

/-- An entry of the merged branches. -/
theorem MG_at (b : Fin 2) (s : Fin 16384) (d : Fin 1024) : MG X G OA OB OC HF HB WI WB (ix3 b s d) = ∑ i : Fin 4, GY X G OA OB OC HF HB WI WB (ix4 b s i d) := by
  pointwise [MG]

/-- An entry of the reference's result. -/
theorem REF_at (b : Fin 2) (s : Fin 16384) (n : Fin 1024) : REF X G OA OB OC HF HB WI WB WO (ix3 b s n)
    = X (ix3 b s n) + ∑ d : Fin 1024, MG X G OA OB OC HF HB WI WB (ix3 b s d) * WO (ix2 d n) := by
  pointwise [REF]

/-- Each row of the reference's result is the merge of the row of its activations and branches. -/
theorem REF_eq (b : Fin 2) (s : Fin 16384) (n : Fin 1024) : REF X G OA OB OC HF HB WI WB WO (ix3 b s n)
    = Cert.Merge.row (fun k => X (ix3 b s k)) (fun k => G (ix1 k)) (fun e => OA (ix3 b s e)) (fun e => OB (ix3 b s e)) (fun e => OC (ix3 b s e))
        (fun e => HF (ix3 b s e)) (fun e => HB (ix3 b s e)) (fun e k => WI (ix2 k ⟨2976 + e.val, by omega⟩))
        (fun i d k => WI (ix2 k ⟨4000 + (1024 * i.val + d.val), by omega⟩)) (fun i d e => WB (ix3 i e d)) (fun d => WO (ix2 d n)) n := by
  rw [REF_at]
  unfold Cert.Merge.row Cert.Merge.mix Cert.Merge.gated Cert.Merge.last
  simp only [MG_at, Fin.sum_univ_four, GY_at, YY_at, BR_at0, BR_at1, BR_at2, BR_at3, OD_at, LG_at, GA_at, PR_at, NRM_at, Ideal.ofBits_one_f32, Ideal.logistic,
    mul_comm (WB _)]

end Cert.Reference4Ideal.Att

end
-- ==== Proof.MergeValue.lean ====
module

public import proofs.«01_k».proof.Proof.MergeBody
public import proofs.«01_k».proof.Proof.MergeRefer

@[expose] public section

set_option maxRecDepth 16384

noncomputable section

/-! The merge call's result array is the reference's term of its arguments. -/

namespace Cert.Kernel4Ideal.Att

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- The gains, as one row. -/
def GG (G : FVec Ideal S1024 .f32) : FVec Ideal S1x1024 .f32 := shapeCast _ G shapeCasts_S1024_S1x1024
/-- A branch with its channels first. -/
def OT (O : FVec Ideal S2x16384x512 .f32) : FVec Ideal S2x512x16384 .bf16 :=
  truncf .bf16 (transpose S2x512x16384 [0, 2, 1] O transposes_S2x16384x512_S2x512x16384_0_2_1) bitsLt_bf16_f32
/-- A branch as it is. -/
def OO (O : FVec Ideal S2x16384x512 .f32) : FVec Ideal S2x16384x512 .bf16 := truncf .bf16 O bitsLt_bf16_f32
/-- The weights of the branches' gates. -/
def WG (W : FVec Ideal S1024x8096 .f32) : FVec Ideal S1024x4096 .bf16 :=
  truncf .bf16 (extractStridedSlice S1024x4096 ![0, 4000] W slices_S1024x8096_S1024x4096_0_4000) bitsLt_bf16_f32
/-- The weights of the recurrence's gate. -/
def WL (W : FVec Ideal S1024x8096 .f32) : FVec Ideal S1024x512 .bf16 :=
  truncf .bf16 (extractStridedSlice S1024x512 ![0, 2976] W slices_S1024x8096_S1024x512_0_2976) bitsLt_bf16_f32
/-- The branches' weights. -/
def WR (W : FVec Ideal S4x512x1024 .f32) : FVec Ideal S4x512x1024 .bf16 := truncf .bf16 W bitsLt_bf16_f32
/-- The output weights. -/
def WW (W : FVec Ideal S1024x1024 .f32) : FVec Ideal S1024x1024 .bf16 := truncf .bf16 W bitsLt_bf16_f32

/-- The gains the call is given. -/
theorem V_g (c : Dev nD) : V m c main_v7 = GG (m ((c : Thread nD τ).loc main_arg1)) := by
  entry_read
  rfl

/-- The first branch the call is given. -/
theorem V_a (c : Dev nD) : V m c main_v1 = OT (m ((c : Thread nD τ).loc main_arg2)) := by
  entry_read
  rfl

/-- The second branch the call is given. -/
theorem V_b (c : Dev nD) : V m c main_v4 = OO (m ((c : Thread nD τ).loc main_arg3)) := by
  entry_read
  rfl

/-- The third branch the call is given. -/
theorem V_c (c : Dev nD) : V m c main_v3 = OT (m ((c : Thread nD τ).loc main_arg4)) := by
  entry_read
  rfl

/-- The weights of the branches' gates the call is given. -/
theorem V_wg (c : Dev nD) : V m c main_v8 = WG (m ((c : Thread nD τ).loc main_arg7)) := by
  entry_read
  rfl

/-- The weights of the recurrence's gate the call is given. -/
theorem V_wl (c : Dev nD) : V m c main_v9 = WL (m ((c : Thread nD τ).loc main_arg7)) := by
  entry_read
  rfl

/-- The branches' weights the call is given. -/
theorem V_wr (c : Dev nD) : V m c main_v10 = WR (m ((c : Thread nD τ).loc main_arg8)) := by
  entry_read
  rfl

/-- The output weights the call is given. -/
theorem V_ww (c : Dev nD) : V m c main_v11 = WW (m ((c : Thread nD τ).loc main_arg9)) := by
  entry_read
  rfl

/-- An entry of the gains. -/
theorem GG_at (G : FVec Ideal S1024 .f32) (z : Fin 1) (k : Fin 1024) : GG G (ix2 z k) = G (ix1 k) := by
  pointwise [GG]

/-- An entry of a branch with its channels first. -/
theorem OT_at (O : FVec Ideal S2x16384x512 .f32) (b : Fin 2) (e : Fin 512) (s : Fin 16384) : OT O (ix3 b e s) = O (ix3 b s e) := by
  pointwise [OT]

/-- An entry of a branch. -/
theorem OO_at (O : FVec Ideal S2x16384x512 .f32) (b : Fin 2) (s : Fin 16384) (e : Fin 512) : OO O (ix3 b s e) = O (ix3 b s e) := by
  pointwise [OO]

/-- An entry of the weights of the branches' gates. -/
theorem WG_at (W : FVec Ideal S1024x8096 .f32) (k : Fin 1024) (f : Fin 4096) : WG W (ix2 k f) = W (ix2 k ⟨4000 + f.val, by omega⟩) := by
  pointwise [WG]

/-- An entry of the weights of the recurrence's gate. -/
theorem WL_at (W : FVec Ideal S1024x8096 .f32) (k : Fin 1024) (e : Fin 512) : WL W (ix2 k e) = W (ix2 k ⟨2976 + e.val, by omega⟩) := by
  pointwise [WL]

/-- An entry of the branches' weights. -/
theorem WR_at (W : FVec Ideal S4x512x1024 .f32) (i : Fin 4) (e : Fin 512) (d : Fin 1024) : WR W (ix3 i e d) = W (ix3 i e d) := by
  pointwise [WR]

/-- An entry of the output weights. -/
theorem WW_at (W : FVec Ideal S1024x1024 .f32) (d n : Fin 1024) : WW W (ix2 d n) = W (ix2 d n) := by
  pointwise [WW]

/-- Which block each moving window is at, at every grid point. -/
theorem idx : ∀ t : Fin cfg0.N, win0_0.index t = ![t.val / 32, t.val % 32, 0] ∧ win0_2.index t = ![t.val / 32, 0, t.val % 32]
    ∧ win0_3.index t = ![t.val / 32, t.val % 32, 0] ∧ win0_4.index t = ![t.val / 32, 0, t.val % 32] ∧ win0_5.index t = ![t.val / 32, t.val % 32, 0]
    ∧ win0_6.index t = ![t.val / 32, t.val % 32, 0] ∧ win0_11.index t = ![t.val / 32, t.val % 32, 0] ∧ t.val < 64 :=
  (by decide +kernel : ∀ t : Fin grid0.N, _)

/-- The windows of the gains and of the weights stay at their one block. -/
theorem idx' : ∀ t : Fin cfg0.N, win0_1.index t = ![0, 0] ∧ win0_7.index t = ![0, 0] ∧ win0_8.index t = ![0, 0] ∧ win0_9.index t = ![0, 0, 0]
    ∧ win0_10.index t = ![0, 0] :=
  (by decide +kernel : ∀ t : Fin grid0.N, _)

/-- The number of grid points. -/
theorem tlt (t : Fin cfg0.N) : t.val < 64 := (idx t).2.2.2.2.2.2.2

/-- The batch entry of a grid point. -/
def bt (t : Fin cfg0.N) : Fin 2 := ⟨t.val / 32, by have := tlt t; omega⟩

/-- The array row of a row of a grid point's block. -/
def st (t : Fin cfg0.N) (r : Fin 512) : Fin 16384 := ⟨512 * (t.val % 32) + r.val, by omega⟩

/-- An entry of the block of rows of a grid point. -/
theorem iblk_x (c : Dev nD) (t : Fin cfg0.N) (r : Fin 512) (k : Fin 1024) : (iblk m c 0 t : FVec Ideal S1x512x1024 .f32) (ix3 0 r k)
    = m ((c : Thread nD τ).loc main_arg0) (ix3 (bt t) (st t r) k) := by
  rw [← V_main_arg0 m c]
  blk_ext [iblk, idx t, bt, st]

/-- An entry of the gains at a grid point. -/
theorem iblk_g (c : Dev nD) (t : Fin cfg0.N) (z : Fin 1) (k : Fin 1024) : (iblk m c 1 t : FVec Ideal S1x1024 .f32) (ix2 z k)
    = GG (m ((c : Thread nD τ).loc main_arg1)) (ix2 z k) := by
  rw [← V_g]
  blk_ext [iblk, idx' t]

/-- An entry of the first branch's block at a grid point. -/
theorem iblk_a (c : Dev nD) (t : Fin cfg0.N) (e r : Fin 512) : (iblk m c 2 t : FVec Ideal S1x512x512 .bf16) (ix3 0 e r)
    = OT (m ((c : Thread nD τ).loc main_arg2)) (ix3 (bt t) e (st t r)) := by
  rw [← V_a]
  blk_ext [iblk, idx t, bt, st]

/-- An entry of the second branch's block at a grid point. -/
theorem iblk_b (c : Dev nD) (t : Fin cfg0.N) (r e : Fin 512) : (iblk m c 3 t : FVec Ideal S1x512x512 .bf16) (ix3 0 r e)
    = OO (m ((c : Thread nD τ).loc main_arg3)) (ix3 (bt t) (st t r) e) := by
  rw [← V_b]
  blk_ext [iblk, idx t, bt, st]

/-- An entry of the third branch's block at a grid point. -/
theorem iblk_c (c : Dev nD) (t : Fin cfg0.N) (e r : Fin 512) : (iblk m c 4 t : FVec Ideal S1x512x512 .bf16) (ix3 0 e r)
    = OT (m ((c : Thread nD τ).loc main_arg4)) (ix3 (bt t) e (st t r)) := by
  rw [← V_c]
  blk_ext [iblk, idx t, bt, st]

/-- An entry of the recurrence's first direction at a grid point. -/
theorem iblk_p (c : Dev nD) (t : Fin cfg0.N) (r e : Fin 512) : (iblk m c 5 t : FVec Ideal S1x512x512 .f32) (ix3 0 r e)
    = m ((c : Thread nD τ).loc main_arg5) (ix3 (bt t) (st t r) e) := by
  rw [← V_main_arg5 m c]
  blk_ext [iblk, idx t, bt, st]

/-- An entry of the recurrence's second direction at a grid point. -/
theorem iblk_q (c : Dev nD) (t : Fin cfg0.N) (r e : Fin 512) : (iblk m c 6 t : FVec Ideal S1x512x512 .f32) (ix3 0 r e)
    = m ((c : Thread nD τ).loc main_arg6) (ix3 (bt t) (st t r) e) := by
  rw [← V_main_arg6 m c]
  blk_ext [iblk, idx t, bt, st]

/-- An entry of the weights of the branches' gates at a grid point. -/
theorem iblk_wg (c : Dev nD) (t : Fin cfg0.N) (k : Fin 1024) (f : Fin 4096) : (iblk m c 7 t : FVec Ideal S1024x4096 .bf16) (ix2 k f)
    = WG (m ((c : Thread nD τ).loc main_arg7)) (ix2 k f) := by
  rw [← V_wg]
  blk_ext [iblk, idx' t]

/-- An entry of the weights of the recurrence's gate at a grid point. -/
theorem iblk_wl (c : Dev nD) (t : Fin cfg0.N) (k : Fin 1024) (e : Fin 512) : (iblk m c 8 t : FVec Ideal S1024x512 .bf16) (ix2 k e)
    = WL (m ((c : Thread nD τ).loc main_arg7)) (ix2 k e) := by
  rw [← V_wl]
  blk_ext [iblk, idx' t]

/-- An entry of the branches' weights at a grid point. -/
theorem iblk_wr (c : Dev nD) (t : Fin cfg0.N) (i : Fin 4) (e : Fin 512) (d : Fin 1024) : (iblk m c 9 t : FVec Ideal S4x512x1024 .bf16) (ix3 i e d)
    = WR (m ((c : Thread nD τ).loc main_arg8)) (ix3 i e d) := by
  rw [← V_wr]
  blk_ext [iblk, idx' t]

/-- An entry of the output weights at a grid point. -/
theorem iblk_ww (c : Dev nD) (t : Fin cfg0.N) (d n : Fin 1024) : (iblk m c 10 t : FVec Ideal S1024x1024 .bf16) (ix2 d n)
    = WW (m ((c : Thread nD τ).loc main_arg9)) (ix2 d n) := by
  rw [← V_ww]
  blk_ext [iblk, idx' t]

/-- The reference's result, of the kernel's arguments. -/
abbrev REF (X : FVec Ideal S2x16384x1024 .f32) (G : FVec Ideal S1024 .f32) (OA OB OC HF HB : FVec Ideal S2x16384x512 .f32)
    (WI : FVec Ideal S1024x8096 .f32) (WB : FVec Ideal S4x512x1024 .f32) (WO : FVec Ideal S1024x1024 .f32) : FVec Ideal S2x16384x1024 .f32 :=
  Cert.Reference4Ideal.Att.REF X G OA OB OC HF HB WI WB WO

/-- The reference's result, of the arguments in a memory. -/
def result (c : Dev nD) : FVec Ideal S2x16384x1024 .f32 :=
  REF (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9))

/-- Equal rows, branches and weights give equal merges. -/
theorem row_congr {x x' g g' : Fin 1024 → EReal} {a a' b b' c c' p p' q q' : Fin 512 → EReal} {l l' : Fin 512 → Fin 1024 → EReal}
    {u u' : Fin 4 → Fin 1024 → Fin 1024 → EReal} {w w' : Fin 4 → Fin 1024 → Fin 512 → EReal} {o o' : Fin 1024 → EReal} (n : Fin 1024)
    (hx : ∀ k, x k = x' k) (hg : ∀ k, g k = g' k) (ha : ∀ e, a e = a' e) (hb : ∀ e, b e = b' e) (hc : ∀ e, c e = c' e) (hp : ∀ e, p e = p' e) (hq : ∀ e, q e = q' e)
    (hl : ∀ e k, l e k = l' e k) (hu : ∀ i d k, u i d k = u' i d k) (hw : ∀ i d e, w i d e = w' i d e) (ho : ∀ d, o d = o' d) :
    Cert.Merge.row x g a b c p q l u w o n = Cert.Merge.row x' g' a' b' c' p' q' l' u' w' o' n := by
  rw [funext hx, funext hg, funext ha, funext hb, funext hc, funext hp, funext hq, funext fun e => funext (hl e), funext fun i => funext fun d => funext (hu i d),
    funext fun i => funext fun d => funext (hw i d), funext ho]

/-- What a grid point stores at an index of its block is the reference's result at the array index it is placed at. -/
theorem point (c : Dev nD) (t : Fin cfg0.N) (z : Fin 1) (r : Fin 512) (n : Fin 1024) :
    out0_11 (F := Ideal) (iblk m c 0 t) (iblk m c 1 t) (iblk m c 2 t) (iblk m c 3 t) (iblk m c 4 t) (iblk m c 5 t) (iblk m c 6 t) (iblk m c 7 t) (iblk m c 8 t)
        (iblk m c 9 t) (iblk m c 10 t) (ix3 z r n)
      = result m c (ix3 (bt t) (st t r) n) := by
  obtain rfl : z = 0 := Subsingleton.elim _ _
  refine (out_at _ _ _ _ _ _ _ _ _ _ _ r n).trans (Eq.trans ?_ (Cert.Reference4Ideal.Att.REF_eq _ _ _ _ _ _ _ _ _ _ _ _ _).symm)
  exact row_congr n (fun k => iblk_x m c t r k) (fun k => (iblk_g m c t 0 k).trans (GG_at _ _ _))
    (fun e => (iblk_a m c t e r).trans (OT_at _ _ _ _)) (fun e => (iblk_b m c t r e).trans (OO_at _ _ _ _)) (fun e => (iblk_c m c t e r).trans (OT_at _ _ _ _))
    (fun e => iblk_p m c t r e) (fun e => iblk_q m c t r e) (fun e k => (iblk_wl m c t k e).trans (WL_at _ _ _))
    (fun i d k => (iblk_wg m c t k _).trans (WG_at _ _ _)) (fun i d e => (iblk_wr m c t i e d).trans (WR_at _ _ _ _)) (fun d => (iblk_ww m c t d n).trans (WW_at _ _ _))

/-- The result array after the run is the reference's term of the arguments. -/
theorem final (c : Dev nD) : (dats m 0 c).arrAt 11 cfg0.N = result m c := by
  refine (dats m 0 c).arrAt_eq_of_covers 11 _ (by decide +kernel) fun t _ y => ?_
  blk_simp
  rw [after0_11]
  idx_vars y
  refine (point m c t _ _ _).trans ?_
  refine congrArg (result m c) ?_
  blk_ext [idx t, bt, st]

/-- The call's run: the result at the reference's term, the arguments as they were. -/
theorem run_value (ρ : Dev nD → PrngReg) :
    θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r e c => ⟨(e c).1.trans (final m c), (e c).2⟩) (Cert.Kernel4Ideal.Value.run_blocks m ρ)

end Cert.Kernel4Ideal.Att

end
-- ==== Proof.lean ====
/- The proof of the claims, of five calls: each program as compiled and each program on the extended reals run and leave
   their arguments as they were, each named scale is what it is named, and on the extended reals each call is its
   reference: the two attentions where queries and keys are finite, the feed-forward half step, the merge and the short
   convolution everywhere. Each part is a module of its own; here they are put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame.Runs
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.ConvValue
public import proofs.«01_k».proof.Proof.Pre
public import proofs.«01_k».proof.Proof.KernelFrame
public import proofs.«01_k».proof.Proof.Value
public import proofs.«01_k».proof.Proof.MlaPre
public import proofs.«01_k».proof.Proof.MlaKernelFrame
public import proofs.«01_k».proof.Proof.MlaValue
public import proofs.«01_k».proof.Proof.FfnValue
public import proofs.«01_k».proof.Proof.MergeValue
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, leaves its arguments as they were and every counter at zero: it has none. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The kernel's result and the reference's are one array, where queries and keys are finite. -/
theorem algebraic : @Cert.algebraic_KernelIdeal_ReferenceIdeal_pre_finite_qk Cert.KernelIdeal.Gen.facts Cert.ReferenceIdeal.Gen.facts Cert.Pre_finite_qk.Att.facts := by
  intro m g m' g' hpre heq
  refine ⟨fun c => Cert.KernelIdeal.Att.REF (m (c.tc.loc Cert.KernelIdeal.main_arg0)) (m (c.tc.loc Cert.KernelIdeal.main_arg1)) (m (c.tc.loc Cert.KernelIdeal.main_arg2)), ?_, ?_⟩
  · exact Cert.KernelIdeal.Att.run_value m g fun c =>
      ⟨Cert.Pre_finite_qk.Att.finite_q _ _ _ (hpre c), Cert.Pre_finite_qk.Att.finite_k _ _ _ (hpre c)⟩
  · refine (θ_run Cert.ReferenceIdeal.defs _ _).mono (fun r h c => ⟨(h c).1.trans ?_, (h c).2⟩) (Cert.ReferenceIdeal.Value.run (F := Ideal) m' g')
    obtain ⟨e0, e1, e2⟩ := heq c
    rw [e0, e1, e2]
    rfl

/-- The latent attention's reference runs, leaves its arguments as they were and every counter at zero: it has none. -/
theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem (c.tc.loc Cert.Reference2Ideal.main_arg0) = m (c.tc.loc Cert.Reference2Ideal.main_arg0)
      ∧ r.2.mem (c.tc.loc Cert.Reference2Ideal.main_arg1) = m (c.tc.loc Cert.Reference2Ideal.main_arg1)
      ∧ r.2.mem (c.tc.loc Cert.Reference2Ideal.main_arg2) = m (c.tc.loc Cert.Reference2Ideal.main_arg2))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

/-- The latent attention's result and the reference's are one array, where queries and keys are finite. -/
theorem algebraic2 : @Cert.algebraic_Kernel2Ideal_Reference2Ideal_pre_finite_qk2 Cert.Kernel2Ideal.Gen.facts Cert.Reference2Ideal.Gen.facts Cert.Pre_finite_qk2.Att.facts := by
  intro m g m' g' hpre heq
  refine ⟨fun c => Cert.Kernel2Ideal.Att.REF (m (c.tc.loc Cert.Kernel2Ideal.main_arg0)) (m (c.tc.loc Cert.Kernel2Ideal.main_arg1)) (m (c.tc.loc Cert.Kernel2Ideal.main_arg2)), ?_, ?_⟩
  · exact Cert.Kernel2Ideal.Att.run_value m g fun c =>
      ⟨Cert.Pre_finite_qk2.Att.finite_q _ _ _ (hpre c), Cert.Pre_finite_qk2.Att.finite_k _ _ _ (hpre c)⟩
  · refine (θ_run Cert.Reference2Ideal.defs _ _).mono (fun r h c => ⟨(h c).1.trans ?_, (h c).2⟩) (Cert.Reference2Ideal.Value.run (F := Ideal) m' g')
    obtain ⟨e0, e1, e2⟩ := heq c
    rw [e0, e1, e2]
    rfl

/-- The feed-forward reference runs, leaves its arguments as they were and every counter at zero: it has none. -/
theorem reference3_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem (c.tc.loc Cert.Reference3Ideal.main_arg0) = m (c.tc.loc Cert.Reference3Ideal.main_arg0)
      ∧ r.2.mem (c.tc.loc Cert.Reference3Ideal.main_arg1) = m (c.tc.loc Cert.Reference3Ideal.main_arg1)
      ∧ r.2.mem (c.tc.loc Cert.Reference3Ideal.main_arg2) = m (c.tc.loc Cert.Reference3Ideal.main_arg2)
      ∧ r.2.mem (c.tc.loc Cert.Reference3Ideal.main_arg3) = m (c.tc.loc Cert.Reference3Ideal.main_arg3))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

/-- The feed-forward call's result and the reference's are one array. -/
theorem algebraic3 : @Cert.algebraic_Kernel3Ideal_Reference3Ideal Cert.Kernel3Ideal.Gen.facts Cert.Reference3Ideal.Gen.facts := by
  intro m g m' g' _ heq
  refine ⟨fun c => Cert.Kernel3Ideal.Att.REF (m (c.tc.loc Cert.Kernel3Ideal.main_arg0)) (m (c.tc.loc Cert.Kernel3Ideal.main_arg1)) (m (c.tc.loc Cert.Kernel3Ideal.main_arg2)) (m (c.tc.loc Cert.Kernel3Ideal.main_arg3)), ?_, ?_⟩
  · exact Cert.Kernel3Ideal.Att.run_value m g
  · refine (θ_run Cert.Reference3Ideal.defs _ _).mono (fun r h c => ⟨(h c).1.trans ?_, (h c).2⟩) (Cert.Reference3Ideal.Value.run (F := Ideal) m' g')
    obtain ⟨e0, e1, e2, e3⟩ := heq c
    rw [e0, e1, e2, e3]
    rfl

/-- The merge's reference runs, leaves its arguments as they were and every counter at zero: it has none. -/
theorem reference4_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem (c.tc.loc Cert.Reference4Ideal.main_arg0) = m (c.tc.loc Cert.Reference4Ideal.main_arg0)
      ∧ r.2.mem (c.tc.loc Cert.Reference4Ideal.main_arg1) = m (c.tc.loc Cert.Reference4Ideal.main_arg1)
      ∧ r.2.mem (c.tc.loc Cert.Reference4Ideal.main_arg2) = m (c.tc.loc Cert.Reference4Ideal.main_arg2)
      ∧ r.2.mem (c.tc.loc Cert.Reference4Ideal.main_arg3) = m (c.tc.loc Cert.Reference4Ideal.main_arg3)
      ∧ r.2.mem (c.tc.loc Cert.Reference4Ideal.main_arg4) = m (c.tc.loc Cert.Reference4Ideal.main_arg4)
      ∧ r.2.mem (c.tc.loc Cert.Reference4Ideal.main_arg5) = m (c.tc.loc Cert.Reference4Ideal.main_arg5)
      ∧ r.2.mem (c.tc.loc Cert.Reference4Ideal.main_arg6) = m (c.tc.loc Cert.Reference4Ideal.main_arg6)
      ∧ r.2.mem (c.tc.loc Cert.Reference4Ideal.main_arg7) = m (c.tc.loc Cert.Reference4Ideal.main_arg7)
      ∧ r.2.mem (c.tc.loc Cert.Reference4Ideal.main_arg8) = m (c.tc.loc Cert.Reference4Ideal.main_arg8)
      ∧ r.2.mem (c.tc.loc Cert.Reference4Ideal.main_arg9) = m (c.tc.loc Cert.Reference4Ideal.main_arg9))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m g)

/-- The merge call's result and the reference's are one array. -/
theorem algebraic4 : @Cert.algebraic_Kernel4Ideal_Reference4Ideal Cert.Kernel4Ideal.Gen.facts Cert.Reference4Ideal.Gen.facts := by
  intro m g m' g' _ heq
  refine ⟨fun c => Cert.Kernel4Ideal.Att.result m c, ?_, ?_⟩
  · exact Cert.Kernel4Ideal.Att.run_value m g
  · refine (θ_run Cert.Reference4Ideal.defs _ _).mono (fun r h c => ⟨(h c).1.trans ?_, (h c).2⟩) (Cert.Reference4Ideal.Value.run (F := Ideal) m' g')
    obtain ⟨e0, e1, e2, e3, e4, e5, e6, e7, e8, e9⟩ := heq c
    unfold Cert.Kernel4Ideal.Att.result Cert.Reference4Ideal.Value.res_main_v48
    rw [e0, e1, e2, e3, e4, e5, e6, e7, e8, e9]
    rfl

/-- The short convolution's reference runs, leaves its arguments as they were and every counter at zero: it has none. -/
theorem reference5_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem (c.tc.loc Cert.Reference5Ideal.main_arg0) = m (c.tc.loc Cert.Reference5Ideal.main_arg0)
      ∧ r.2.mem (c.tc.loc Cert.Reference5Ideal.main_arg1) = m (c.tc.loc Cert.Reference5Ideal.main_arg1)
      ∧ r.2.mem (c.tc.loc Cert.Reference5Ideal.main_arg2) = m (c.tc.loc Cert.Reference5Ideal.main_arg2)
      ∧ r.2.mem (c.tc.loc Cert.Reference5Ideal.main_arg3) = m (c.tc.loc Cert.Reference5Ideal.main_arg3)
      ∧ r.2.mem (c.tc.loc Cert.Reference5Ideal.main_arg4) = m (c.tc.loc Cert.Reference5Ideal.main_arg4))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m g)

/-- The short convolution call's result and the reference's are one array. -/
theorem algebraic5 : @Cert.algebraic_Kernel5Ideal_Reference5Ideal Cert.Kernel5Ideal.Gen.facts Cert.Reference5Ideal.Gen.facts := by
  intro m g m' g' _ heq
  refine ⟨fun c => Cert.Kernel5Ideal.Att.result m c, ?_, ?_⟩
  · exact Cert.Kernel5Ideal.Att.run_value m g
  · refine (θ_run Cert.Reference5Ideal.defs _ _).mono (fun r h c => ⟨(h c).1.trans ?_, (h c).2⟩) (Cert.Reference5Ideal.Value.run (F := Ideal) m' g')
    obtain ⟨e0, e1, e2, e3, e4⟩ := heq c
    unfold Cert.Kernel5Ideal.Att.result Cert.Reference5Ideal.Value.res_main_v44
    rw [e0, e1, e2, e3, e4]
    rfl

/-- All the claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite_qk.Att.facts, Cert.Pre_finite_qk2.Att.facts,
    Cert.KernelIdeal.Att.quiescent_kernel,
    fun m g _ => Cert.KernelIdeal.Att.frame m g,
    fun m g _ => Cert.KernelIdeal.Att.frame m g,
    fun m g _ => reference_frame m g,
    fun m g _ => reference_frame m g,
    Cert.Kernel2Ideal.Att.quiescent_kernel,
    fun m g _ => Cert.Kernel2Ideal.Att.frame m g,
    fun m g _ => Cert.Kernel2Ideal.Att.frame m g,
    fun m g _ => reference2_frame m g,
    fun m g _ => reference2_frame m g,
    fun m g _ => Cert.Kernel3.Gen.frame m g,
    fun m g _ => Cert.Kernel3Ideal.Gen.frame m g,
    fun m g _ => reference3_frame m g,
    fun m g _ => Cert.Kernel4.Gen.frame m g,
    fun m g _ => Cert.Kernel4Ideal.Gen.frame m g,
    fun m g _ => reference4_frame m g,
    fun m g _ => Cert.Kernel5.Gen.frame m g,
    fun m g _ => Cert.Kernel5Ideal.Gen.frame m g,
    fun m g _ => reference5_frame m g,
    IdealRules.named_const.statement Cert.KernelIdeal.κ "scale_log2e" .f32 0x3E38AA3B#32 (((8 * (Real.log 2))⁻¹ : ℝ) : EReal) rfl,
    algebraic,
    IdealRules.named_const.statement Cert.Kernel2Ideal.κ "scale_log2e" .f32 0x3E16C740#32 ((((Real.sqrt 96) * (Real.log 2))⁻¹ : ℝ) : EReal) rfl,
    algebraic2,
    trivial,
    algebraic3,
    trivial,
    algebraic4,
    trivial,
    algebraic5⟩

end Cert.Proof

end
